-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "tenToTwelve" .f32 0x5368D4A5#32 ((1000000000000 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x256x256 : Shape := ⟨4, ![4, 1, 256, 256]⟩
abbrev S4x1x1 : Shape := ⟨3, ![4, 1, 1]⟩
abbrev S1x1x256x256 : Shape := ⟨4, ![1, 1, 256, 256]⟩
abbrev S1x1x1 : Shape := ⟨3, ![1, 1, 1]⟩
abbrev S256x256 : Shape := ⟨2, ![256, 256]⟩
abbrev S256x1x256 : Shape := ⟨3, ![256, 1, 256]⟩
abbrev S1x256 : Shape := ⟨2, ![1, 256]⟩
abbrev S255x256 : Shape := ⟨2, ![255, 256]⟩
abbrev S256x1 : Shape := ⟨2, ![256, 1]⟩
abbrev S256x255 : Shape := ⟨2, ![256, 255]⟩
abbrev S256 : Shape := ⟨1, ![256]⟩
abbrev S1x1x256 : Shape := ⟨3, ![1, 1, 256]⟩
abbrev S1x256x256 : Shape := ⟨3, ![1, 256, 256]⟩
abbrev S1 : Shape := ⟨1, ![1]⟩
abbrev S1x1 : Shape := ⟨2, ![1, 1]⟩
abbrev S_ : Shape := ⟨0, ![]⟩

abbrev nBuf : Space → Nat
  | .hbm => 7
  | .vmem => 17
  | .smem => 0
  | _ => 0

abbrev bufTy : (tb : Table) → Fin (tcTables nBuf tb) → BufTy
  | .hbm, ⟨0, _⟩ => ⟨S4x1x256x256, .f32⟩
  | .hbm, ⟨1, _⟩ => ⟨S4x1x256x256, .i32⟩
  | .hbm, ⟨2, _⟩ => ⟨S4x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1x256x256, .f32⟩
  | .local _ .vmem, ⟨1, _⟩ => ⟨S1x1x256x256, .f32⟩
  | .local _ .vmem, ⟨2, _⟩ => ⟨S1x1x256x256, .i32⟩
  | .local _ .vmem, ⟨3, _⟩ => ⟨S1x1x256x256, .i32⟩
  | .local _ .vmem, ⟨4, _⟩ => ⟨S1x1x1, .f32⟩
  | .local _ .vmem, ⟨5, _⟩ => ⟨S1x1x1, .f32⟩
  | .local _ .vmem, ⟨6, _⟩ => ⟨S256x256, .f32⟩
  | .local _ .vmem, ⟨7, _⟩ => ⟨S256x256, .f32⟩
  | .local _ .vmem, ⟨8, _⟩ => ⟨S256x1x256, .f32⟩
  | .local _ .vmem, ⟨9, _⟩ => ⟨S256x1x256, .f32⟩
  | .local _ .vmem, ⟨10, _⟩ => ⟨S256x1x256, .f32⟩
  | .local _ .vmem, ⟨11, _⟩ => ⟨S256x1x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S4x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_41 : BitVec 32 := 0#32
  let c128_i32 : BitVec 32 := 128#32
  let v88 : BitVec 32 := Scalar.addi c0_i32_41 c128_i32
  let c1_i32 : BitVec 32 := 1#32
  ⟨c0_i32_41, v88, c1_i32⟩
def k0_off1 (k0_t1 : Fin k0_t1_loop.trips) : Fin 3 → Nat :=
  let c2_i32 : BitVec 32 := 2#32
  let c0_i32_41 : BitVec 32 := 0#32
  let c1_i32 : BitVec 32 := 1#32
  let arg15 : BitVec 32 := Scf.iv c0_i32_41 c1_i32 k0_t1
  let v379 : BitVec 32 := Scalar.muli c2_i32 arg15
  let v400 : Index := Scalar.indexCast v379
  let c0_204 : Index := 0#32
  let c0_205 : Index := 0#32
  ![v400.toNat, 0, 0]
def k0_off2 (k0_t1 : Fin k0_t1_loop.trips) : Fin 3 → Nat :=
  let c2_i32 : BitVec 32 := 2#32
  let c0_i32_41 : BitVec 32 := 0#32
  let c1_i32 : BitVec 32 := 1#32
  let arg15 : BitVec 32 := Scf.iv c0_i32_41 c1_i32 k0_t1
  let v379 : BitVec 32 := Scalar.muli c2_i32 arg15
  let c1_i32_210 : BitVec 32 := 1#32
  let v422 : BitVec 32 := Scalar.addi v379 c1_i32_210
  let v423 : Index := Scalar.indexCast v422
  let c0_211 : Index := 0#32
  let c0_212 : Index := 0#32
  ![v423.toNat, 0, 0]
@[reducible] def k0_t2_loop : Scf.Loop 32 :=
  let c0_i32_53 : BitVec 32 := 0#32
  let c128_i32_54 : BitVec 32 := 128#32
  let v103 : BitVec 32 := Scalar.addi c0_i32_53 c128_i32_54
  let c1_i32_55 : BitVec 32 := 1#32
  ⟨c0_i32_53, v103, c1_i32_55⟩
def k0_off3 (k0_t2 : Fin k0_t2_loop.trips) : Fin 3 → Nat :=
  let c2_i32 : BitVec 32 := 2#32
  let c0_i32_53 : BitVec 32 := 0#32
  let c1_i32_55 : BitVec 32 := 1#32
  let arg15 : BitVec 32 := Scf.iv c0_i32_53 c1_i32_55 k0_t2
  let v379 : BitVec 32 := Scalar.muli c2_i32 arg15
  let v400 : Index := Scalar.indexCast v379
  let c0_204 : Index := 0#32
  let c0_205 : Index := 0#32
  ![v400.toNat, 0, 0]
def k0_off4 (k0_t2 : Fin k0_t2_loop.trips) : Fin 3 → Nat :=
  let c2_i32 : BitVec 32 := 2#32
  let c0_i32_53 : BitVec 32 := 0#32
  let c1_i32_55 : BitVec 32 := 1#32
  let arg15 : BitVec 32 := Scf.iv c0_i32_53 c1_i32_55 k0_t2
  let v379 : BitVec 32 := Scalar.muli c2_i32 arg15
  let c1_i32_210 : BitVec 32 := 1#32
  let v422 : BitVec 32 := Scalar.addi v379 c1_i32_210
  let v423 : Index := Scalar.indexCast v422
  let c0_211 : Index := 0#32
  let c0_212 : Index := 0#32
  ![v423.toNat, 0, 0]
@[reducible] def k0_t3_loop : Scf.Loop 32 :=
  let c0_i32_102 : BitVec 32 := 0#32
  let c17_i32 : BitVec 32 := 17#32
  let v182 : BitVec 32 := Scalar.addi c0_i32_102 c17_i32
  let c1_i32_103 : BitVec 32 := 1#32
  ⟨c0_i32_102, v182, c1_i32_103⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "tenToTwelve" => some ((1000000000000 : ℝ) : EReal)
  | _ => none
-- ==== ReferenceIdeal.lean ====
abbrev S4x1x256x256 : Shape := ⟨4, ![4, 1, 256, 256]⟩
abbrev S_ : Shape := ⟨0, ![]⟩
abbrev S4x256x256 : Shape := ⟨3, ![4, 256, 256]⟩
abbrev S4x258x258 : Shape := ⟨3, ![4, 258, 258]⟩
abbrev S8x256x256 : Shape := ⟨3, ![8, 256, 256]⟩
abbrev S16x256x256 : Shape := ⟨3, ![16, 256, 256]⟩
abbrev S256x16x256 : Shape := ⟨3, ![256, 16, 256]⟩
abbrev S16x256 : Shape := ⟨2, ![16, 256]⟩
abbrev S1x16x256 : Shape := ⟨3, ![1, 16, 256]⟩
abbrev S256x8x256 : Shape := ⟨3, ![256, 8, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x256x256 : Shape := ⟨4, ![8, 1, 256, 256]⟩
abbrev S1x256x256x1 : Shape := ⟨4, ![1, 256, 256, 1]⟩
abbrev S8x256x256x256 : Shape := ⟨4, ![8, 256, 256, 256]⟩
abbrev S4x65536 : Shape := ⟨2, ![4, 65536]⟩
abbrev S4 : Shape := ⟨1, ![4]⟩
abbrev S4x1 : Shape := ⟨2, ![4, 1]⟩
abbrev S4x1x1 : Shape := ⟨3, ![4, 1, 1]⟩

abbrev nBuf : Space → Nat
  | .hbm => 251
  | .vmem => 0
  | .smem => 0
  | _ => 0

abbrev hbmTy0_0 (i : Nat) : BufTy := match i % 128 with
  | 0 => ⟨S4x1x256x256, .f32⟩
  | 1 => ⟨S4x1x256x256, .i32⟩
  | 2 => ⟨S4x1x256x256, .f32⟩
  | 3 => ⟨S4x1x256x256, .f32⟩
  | 4 => ⟨S_, .f32⟩
  | 5 => ⟨S4x1x256x256, .f32⟩
  | 6 => ⟨S4x1x256x256, .f32⟩
  | 7 => ⟨S_, .f32⟩
  | 8 => ⟨S4x1x256x256, .f32⟩
  | 9 => ⟨S4x1x256x256, .f32⟩
  | 10 => ⟨S_, .f32⟩
  | 11 => ⟨S4x1x256x256, .f32⟩
  | 12 => ⟨S4x1x256x256, .i1⟩
  | 13 => ⟨S4x256x256, .i1⟩
  | 14 => ⟨S_, .i32⟩
  | 15 => ⟨S4x1x256x256, .i32⟩
  | 16 => ⟨S4x1x256x256, .i1⟩
  | 17 => ⟨S4x256x256, .i1⟩
  | 18 => ⟨S_, .i1⟩
  | 19 => ⟨S4x258x258, .i1⟩
  | 20 => ⟨S4x256x256, .i1⟩
  | 21 => ⟨S4x256x256, .i1⟩
  | 22 => ⟨S4x256x256, .i1⟩
  | 23 => ⟨S4x256x256, .i1⟩
  | 24 => ⟨S4x256x256, .i1⟩
  | 25 => ⟨S4x256x256, .i1⟩
  | 26 => ⟨S4x256x256, .i1⟩
  | 27 => ⟨S4x256x256, .i1⟩
  | 28 => ⟨S4x256x256, .i1⟩
  | 29 => ⟨S4x256x256, .i1⟩
  | 30 => ⟨S4x256x256, .i1⟩
  | 31 => ⟨S_, .i1⟩
  | 32 => ⟨S4x258x258, .i1⟩
  | 33 => ⟨S4x256x256, .i1⟩
  | 34 => ⟨S4x256x256, .i1⟩
  | 35 => ⟨S4x256x256, .i1⟩
  | 36 => ⟨S4x256x256, .i1⟩
  | 37 => ⟨S4x256x256, .i1⟩
  | 38 => ⟨S4x256x256, .i1⟩
  | 39 => ⟨S4x256x256, .i1⟩
  | 40 => ⟨S4x256x256, .i1⟩
  | 41 => ⟨S4x256x256, .i1⟩
  | 42 => ⟨S4x256x256, .i1⟩
  | 43 => ⟨S4x256x256, .i1⟩
  | 44 => ⟨S8x256x256, .i1⟩
  | 45 => ⟨S8x256x256, .i1⟩
  | 46 => ⟨S16x256x256, .i1⟩
  | 47 => ⟨S256x16x256, .i1⟩
  | 48 => ⟨S_, .f32⟩
  | 49 => ⟨S16x256, .f32⟩
  | 50 => ⟨S_, .f32⟩
  | 51 => ⟨S256x16x256, .f32⟩
  | 52 => ⟨S_, .i32⟩
  | 53 => ⟨S256x16x256, .i1⟩
  | 54 => ⟨S_, .i32⟩
  | 55 => ⟨S16x256, .f32⟩
  | 56 => ⟨S256x16x256, .f32⟩
  | 57 => ⟨S_, .i32⟩
  | 58 => ⟨S_, .i1⟩
  | 59 => ⟨S_, .i32⟩
  | 60 => ⟨S_, .i32⟩
  | 61 => ⟨S1x16x256, .i1⟩
  | 62 => ⟨S16x256, .i1⟩
  | 63 => ⟨S_, .f32⟩
  | 64 => ⟨S16x256, .f32⟩
  | 65 => ⟨S16x256, .f32⟩
  | 66 => ⟨S_, .f32⟩
  | 67 => ⟨S_, .f32⟩
  | 68 => ⟨S16x256, .f32⟩
  | 69 => ⟨S16x256, .f32⟩
  | 70 => ⟨S1x16x256, .f32⟩
  | 71 => ⟨S_, .i32⟩
  | 72 => ⟨S_, .i32⟩
  | 73 => ⟨S256x16x256, .f32⟩
  | 74 => ⟨S_, .i32⟩
  | 75 => ⟨S_, .i32⟩
  | 76 => ⟨S256x8x256, .f32⟩
  | 77 => ⟨S256x8x256, .f32⟩
  | 78 => ⟨S256x8x256, .f32⟩
  | 79 => ⟨S256x8x256, .f32⟩
  | 80 => ⟨S8x256x256, .f32⟩
  | 81 => ⟨S_, .f32⟩
  | 82 => ⟨S8x256x256, .f32⟩
  | 83 => ⟨S8x256x256, .f32⟩
  | 84 => ⟨S8x256x256, .f32⟩
  | 85 => ⟨S256, .f32⟩
  | 86 => ⟨S256x1, .f32⟩
  | 87 => ⟨S1x256, .f32⟩
  | 88 => ⟨S256x256, .f32⟩
  | 89 => ⟨S256x256, .f32⟩
  | 90 => ⟨S256x256, .f32⟩
  | 91 => ⟨S256x256, .f32⟩
  | 92 => ⟨S8x1x256x256, .f32⟩
  | 93 => ⟨S1x256x256x1, .f32⟩
  | 94 => ⟨S8x256x256x256, .f32⟩
  | 95 => ⟨S8x256x256x256, .f32⟩
  | 96 => ⟨S8x256x256x256, .f32⟩
  | 97 => ⟨S_, .f32⟩
  | 98 => ⟨S8x256x256, .f32⟩
  | 99 => ⟨S8x256x256, .f32⟩
  | 100 => ⟨S4x256x256, .f32⟩
  | 101 => ⟨S4x256x256, .f32⟩
  | 102 => ⟨S4x65536, .f32⟩
  | 103 => ⟨S4x65536, .i1⟩
  | 104 => ⟨S_, .f32⟩
  | 105 => ⟨S_, .f32⟩
  | 106 => ⟨S_, .f32⟩
  | 107 => ⟨S4x65536, .f32⟩
  | 108 => ⟨S4x65536, .f32⟩
  | 109 => ⟨S4x65536, .f32⟩
  | 110 => ⟨S4x65536, .i32⟩
  | 111 => ⟨S_, .i32⟩
  | 112 => ⟨S4, .i32⟩
  | 113 => ⟨S_, .i32⟩
  | 114 => ⟨S4, .i32⟩
  | 115 => ⟨S4, .i32⟩
  | 116 => ⟨S_, .i32⟩
  | 117 => ⟨S4, .i32⟩
  | 118 => ⟨S4, .i32⟩
  | 119 => ⟨S4, .f32⟩
  | 120 => ⟨S_, .f32⟩
  | 121 => ⟨S4, .f32⟩
  | 122 => ⟨S4, .f32⟩
  | 123 => ⟨S4, .f32⟩
  | 124 => ⟨S4, .i32⟩
  | 125 => ⟨S_, .i32⟩
  | 126 => ⟨S_, .i32⟩
  | 127 => ⟨S_, .i32⟩
  | _ => ⟨S4x1x256x256, .f32⟩

abbrev hbmTy0_1 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S_, .i32⟩
  | 6 => ⟨S4, .i32⟩
  | 7 => ⟨S4, .i32⟩
  | 8 => ⟨S_, .i32⟩
  | 9 => ⟨S_, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S4, .f32⟩
  | 17 => ⟨S4, .f32⟩
  | 18 => ⟨S4x1, .i32⟩
  | 19 => ⟨S_, .i32⟩
  | 20 => ⟨S4x1, .i32⟩
  | 21 => ⟨S4x1, .i1⟩
  | 22 => ⟨S_, .i32⟩
  | 23 => ⟨S4x1, .i32⟩
  | 24 => ⟨S4x1, .i32⟩
  | 25 => ⟨S4x1, .i32⟩
  | 26 => ⟨S4x1x1, .i32⟩
  | 27 => ⟨S4x1, .f32⟩
  | 28 => ⟨S4, .f32⟩
  | 29 => ⟨S4x1, .i32⟩
  | 30 => ⟨S_, .i32⟩
  | 31 => ⟨S4x1, .i32⟩
  | 32 => ⟨S4x1, .i1⟩
  | 33 => ⟨S_, .i32⟩
  | 34 => ⟨S4x1, .i32⟩
  | 35 => ⟨S4x1, .i32⟩
  | 36 => ⟨S4x1, .i32⟩
  | 37 => ⟨S4x1x1, .i32⟩
  | 38 => ⟨S4x1, .f32⟩
  | 39 => ⟨S4, .f32⟩
  | 40 => ⟨S_, .f32⟩
  | 41 => ⟨S4, .f32⟩
  | 42 => ⟨S4, .f32⟩
  | 43 => ⟨S4, .f32⟩
  | 44 => ⟨S4, .f32⟩
  | 45 => ⟨S4, .f32⟩
  | 46 => ⟨S4x65536, .f32⟩
  | 47 => ⟨S4x65536, .i1⟩
  | 48 => ⟨S_, .f32⟩
  | 49 => ⟨S_, .f32⟩
  | 50 => ⟨S_, .f32⟩
  | 51 => ⟨S4x65536, .f32⟩
  | 52 => ⟨S4x65536, .f32⟩
  | 53 => ⟨S4x65536, .f32⟩
  | 54 => ⟨S4x65536, .i32⟩
  | 55 => ⟨S_, .i32⟩
  | 56 => ⟨S4, .i32⟩
  | 57 => ⟨S_, .i32⟩
  | 58 => ⟨S4, .i32⟩
  | 59 => ⟨S4, .i32⟩
  | 60 => ⟨S_, .i32⟩
  | 61 => ⟨S4, .i32⟩
  | 62 => ⟨S4, .i32⟩
  | 63 => ⟨S4, .f32⟩
  | 64 => ⟨S_, .f32⟩
  | 65 => ⟨S4, .f32⟩
  | 66 => ⟨S4, .f32⟩
  | 67 => ⟨S4, .f32⟩
  | 68 => ⟨S4, .i32⟩
  | 69 => ⟨S_, .i32⟩
  | 70 => ⟨S_, .i32⟩
  | 71 => ⟨S_, .i32⟩
  | 72 => ⟨S4, .i32⟩
  | 73 => ⟨S4, .i32⟩
  | 74 => ⟨S_, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S_, .i32⟩
  | 82 => ⟨S_, .i32⟩
  | 83 => ⟨S4, .i32⟩
  | 84 => ⟨S4, .i32⟩
  | 85 => ⟨S_, .i32⟩
  | 86 => ⟨S4, .i32⟩
  | 87 => ⟨S4, .i32⟩
  | 88 => ⟨S4, .f32⟩
  | 89 => ⟨S4, .f32⟩
  | 90 => ⟨S4x1, .i32⟩
  | 91 => ⟨S_, .i32⟩
  | 92 => ⟨S4x1, .i32⟩
  | 93 => ⟨S4x1, .i1⟩
  | 94 => ⟨S_, .i32⟩
  | 95 => ⟨S4x1, .i32⟩
  | 96 => ⟨S4x1, .i32⟩
  | 97 => ⟨S4x1, .i32⟩
  | 98 => ⟨S4x1x1, .i32⟩
  | 99 => ⟨S4x1, .f32⟩
  | 100 => ⟨S4, .f32⟩
  | 101 => ⟨S4x1, .i32⟩
  | 102 => ⟨S_, .i32⟩
  | 103 => ⟨S4x1, .i32⟩
  | 104 => ⟨S4x1, .i1⟩
  | 105 => ⟨S_, .i32⟩
  | 106 => ⟨S4x1, .i32⟩
  | 107 => ⟨S4x1, .i32⟩
  | 108 => ⟨S4x1, .i32⟩
  | 109 => ⟨S4x1x1, .i32⟩
  | 110 => ⟨S4x1, .f32⟩
  | 111 => ⟨S4, .f32⟩
  | 112 => ⟨S_, .f32⟩
  | 113 => ⟨S4, .f32⟩
  | 114 => ⟨S4, .f32⟩
  | 115 => ⟨S4, .f32⟩
  | 116 => ⟨S4, .f32⟩
  | 117 => ⟨S4, .f32⟩
  | 118 => ⟨S4, .f32⟩
  | 119 => ⟨S_, .f32⟩
  | 120 => ⟨S_, .f32⟩
  | 121 => ⟨S_, .f32⟩
  | 122 => ⟨S_, .f32⟩
  | _ => ⟨S4x1x256x256, .f32⟩

abbrev hbmTy (i : Nat) : BufTy := match i / 128 with
  | 0 => hbmTy0_0 i
  | 1 => hbmTy0_1 i
  | _ => ⟨S4x1x256x256, .f32⟩

abbrev bufTy : (tb : Table) → Fin (tcTables nBuf tb) → BufTy
  | .hbm, ⟨i, _⟩ => hbmTy i
  | _, _ => ⟨S4x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_c_6 : Ref sig .tc := ⟨.hbm, 52, rfl⟩
abbrev main_v42_0 : Ref sig .tc := ⟨.hbm, 53, rfl⟩
abbrev main_v42_1 : Ref sig .tc := ⟨.hbm, 54, rfl⟩
abbrev main_v42_2 : Ref sig .tc := ⟨.hbm, 55, rfl⟩
abbrev main_v42_3 : Ref sig .tc := ⟨.hbm, 56, rfl⟩
abbrev main_while0c_c_38 : Ref sig .tc := ⟨.hbm, 57, rfl⟩
abbrev main_while0c_v136 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_v0 : Ref sig .tc := ⟨.hbm, 61, rfl⟩
abbrev main_while0b_v136 : Ref sig .tc := ⟨.hbm, 62, rfl⟩
abbrev main_while0b_cst_38 : Ref sig .tc := ⟨.hbm, 63, rfl⟩
abbrev main_while0b_v137 : Ref sig .tc := ⟨.hbm, 64, rfl⟩
abbrev main_while0b_v138 : Ref sig .tc := ⟨.hbm, 65, rfl⟩
abbrev main_while0b_cst_39 : Ref sig .tc := ⟨.hbm, 66, rfl⟩
abbrev main_while0b_call3_v0 : Ref sig .tc := ⟨.hbm, 67, rfl⟩
abbrev main_while0b_call3_v1 : Ref sig .tc := ⟨.hbm, 68, rfl⟩
abbrev main_while0b_v139 : Ref sig .tc := ⟨.hbm, 69, rfl⟩
abbrev main_while0b_call4_v0 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_v140 : Ref sig .tc := ⟨.hbm, 73, rfl⟩
abbrev main_while0b_c_40 : Ref sig .tc := ⟨.hbm, 74, rfl⟩
abbrev main_while0b_v141 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_8 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_9 : Ref sig .tc := ⟨.hbm, 104, rfl⟩
abbrev main_cst_10 : Ref sig .tc := ⟨.hbm, 105, rfl⟩
abbrev main_v69 : Ref sig .tc := ⟨.hbm, 106, rfl⟩
abbrev main_call5_v0 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_c_11 : Ref sig .tc := ⟨.hbm, 111, rfl⟩
abbrev main_v73 : Ref sig .tc := ⟨.hbm, 112, rfl⟩
abbrev main_c_12 : Ref sig .tc := ⟨.hbm, 113, rfl⟩
abbrev main_v74 : Ref sig .tc := ⟨.hbm, 114, rfl⟩
abbrev main_v75 : Ref sig .tc := ⟨.hbm, 115, rfl⟩
abbrev main_c_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_c_15 : Ref sig .tc := ⟨.hbm, 125, rfl⟩
abbrev main_c_16 : Ref sig .tc := ⟨.hbm, 126, rfl⟩
abbrev main_call7_v0 : Ref sig .tc := ⟨.hbm, 127, rfl⟩
abbrev main_call7_v1 : Ref sig .tc := ⟨.hbm, 128, rfl⟩
abbrev main_call7_v2 : Ref sig .tc := ⟨.hbm, 129, rfl⟩
abbrev main_call7_v3 : Ref sig .tc := ⟨.hbm, 130, rfl⟩
abbrev main_call7_v4 : Ref sig .tc := ⟨.hbm, 131, rfl⟩
abbrev main_v83 : Ref sig .tc := ⟨.hbm, 132, rfl⟩
abbrev main_c_17 : Ref sig .tc := ⟨.hbm, 133, rfl⟩
abbrev main_v84 : Ref sig .tc := ⟨.hbm, 134, rfl⟩
abbrev main_v85 : Ref sig .tc := ⟨.hbm, 135, rfl⟩
abbrev main_c_18 : Ref sig .tc := ⟨.hbm, 136, rfl⟩
abbrev main_c_19 : Ref sig .tc := ⟨.hbm, 137, rfl⟩
abbrev main_call8_v0 : Ref sig .tc := ⟨.hbm, 138, rfl⟩
abbrev main_call8_v1 : Ref sig .tc := ⟨.hbm, 139, rfl⟩
abbrev main_call8_v2 : Ref sig .tc := ⟨.hbm, 140, rfl⟩
abbrev main_call8_v3 : Ref sig .tc := ⟨.hbm, 141, rfl⟩
abbrev main_call8_v4 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_call9_c : Ref sig .tc := ⟨.hbm, 147, rfl⟩
abbrev main_call9_v0 : Ref sig .tc := ⟨.hbm, 148, rfl⟩
abbrev main_call9_v1 : Ref sig .tc := ⟨.hbm, 149, rfl⟩
abbrev main_call9_c_0 : Ref sig .tc := ⟨.hbm, 150, rfl⟩
abbrev main_call9_v2 : Ref sig .tc := ⟨.hbm, 151, rfl⟩
abbrev main_call9_v3 : Ref sig .tc := ⟨.hbm, 152, rfl⟩
abbrev main_call9_v4 : Ref sig .tc := ⟨.hbm, 153, rfl⟩
abbrev main_call9_v5 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_call10_c : Ref sig .tc := ⟨.hbm, 158, rfl⟩
abbrev main_call10_v0 : Ref sig .tc := ⟨.hbm, 159, rfl⟩
abbrev main_call10_v1 : Ref sig .tc := ⟨.hbm, 160, rfl⟩
abbrev main_call10_c_0 : Ref sig .tc := ⟨.hbm, 161, rfl⟩
abbrev main_call10_v2 : Ref sig .tc := ⟨.hbm, 162, rfl⟩
abbrev main_call10_v3 : Ref sig .tc := ⟨.hbm, 163, rfl⟩
abbrev main_call10_v4 : Ref sig .tc := ⟨.hbm, 164, rfl⟩
abbrev main_call10_v5 : Ref sig .tc := ⟨.hbm, 165, rfl⟩
abbrev main_v93 : Ref sig .tc := ⟨.hbm, 166, rfl⟩
abbrev main_v94 : Ref sig .tc := ⟨.hbm, 167, rfl⟩
abbrev main_cst_20 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_cst_21 : Ref sig .tc := ⟨.hbm, 176, rfl⟩
abbrev main_cst_22 : Ref sig .tc := ⟨.hbm, 177, rfl⟩
abbrev main_v102 : Ref sig .tc := ⟨.hbm, 178, rfl⟩
abbrev main_call11_v0 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_c_23 : Ref sig .tc := ⟨.hbm, 183, rfl⟩
abbrev main_v106 : Ref sig .tc := ⟨.hbm, 184, rfl⟩
abbrev main_c_24 : Ref sig .tc := ⟨.hbm, 185, rfl⟩
abbrev main_v107 : Ref sig .tc := ⟨.hbm, 186, rfl⟩
abbrev main_v108 : Ref sig .tc := ⟨.hbm, 187, rfl⟩
abbrev main_c_25 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_cst_26 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_c_27 : Ref sig .tc := ⟨.hbm, 197, rfl⟩
abbrev main_c_28 : Ref sig .tc := ⟨.hbm, 198, rfl⟩
abbrev main_call13_v0 : Ref sig .tc := ⟨.hbm, 199, rfl⟩
abbrev main_call13_v1 : Ref sig .tc := ⟨.hbm, 200, rfl⟩
abbrev main_call13_v2 : Ref sig .tc := ⟨.hbm, 201, rfl⟩
abbrev main_call13_v3 : Ref sig .tc := ⟨.hbm, 202, rfl⟩
abbrev main_call13_v4 : Ref sig .tc := ⟨.hbm, 203, rfl⟩
abbrev main_v116 : Ref sig .tc := ⟨.hbm, 204, rfl⟩
abbrev main_c_29 : Ref sig .tc := ⟨.hbm, 205, rfl⟩
abbrev main_v117 : Ref sig .tc := ⟨.hbm, 206, rfl⟩
abbrev main_v118 : Ref sig .tc := ⟨.hbm, 207, rfl⟩
abbrev main_c_30 : Ref sig .tc := ⟨.hbm, 208, rfl⟩
abbrev main_c_31 : Ref sig .tc := ⟨.hbm, 209, rfl⟩
abbrev main_call14_v0 : Ref sig .tc := ⟨.hbm, 210, rfl⟩
abbrev main_call14_v1 : Ref sig .tc := ⟨.hbm, 211, rfl⟩
abbrev main_call14_v2 : Ref sig .tc := ⟨.hbm, 212, rfl⟩
abbrev main_call14_v3 : Ref sig .tc := ⟨.hbm, 213, rfl⟩
abbrev main_call14_v4 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_call15_c : Ref sig .tc := ⟨.hbm, 219, rfl⟩
abbrev main_call15_v0 : Ref sig .tc := ⟨.hbm, 220, rfl⟩
abbrev main_call15_v1 : Ref sig .tc := ⟨.hbm, 221, rfl⟩
abbrev main_call15_c_0 : Ref sig .tc := ⟨.hbm, 222, rfl⟩
abbrev main_call15_v2 : Ref sig .tc := ⟨.hbm, 223, rfl⟩
abbrev main_call15_v3 : Ref sig .tc := ⟨.hbm, 224, rfl⟩
abbrev main_call15_v4 : Ref sig .tc := ⟨.hbm, 225, rfl⟩
abbrev main_call15_v5 : Ref sig .tc := ⟨.hbm, 226, rfl⟩
abbrev main_v123 : Ref sig .tc := ⟨.hbm, 227, rfl⟩
abbrev main_v124 : Ref sig .tc := ⟨.hbm, 228, rfl⟩
abbrev main_v125 : Ref sig .tc := ⟨.hbm, 229, rfl⟩
abbrev main_call16_c : Ref sig .tc := ⟨.hbm, 230, rfl⟩
abbrev main_call16_v0 : Ref sig .tc := ⟨.hbm, 231, rfl⟩
abbrev main_call16_v1 : Ref sig .tc := ⟨.hbm, 232, rfl⟩
abbrev main_call16_c_0 : Ref sig .tc := ⟨.hbm, 233, rfl⟩
abbrev main_call16_v2 : Ref sig .tc := ⟨.hbm, 234, rfl⟩
abbrev main_call16_v3 : Ref sig .tc := ⟨.hbm, 235, rfl⟩
abbrev main_call16_v4 : Ref sig .tc := ⟨.hbm, 236, rfl⟩
abbrev main_call16_v5 : Ref sig .tc := ⟨.hbm, 237, rfl⟩
abbrev main_v126 : Ref sig .tc := ⟨.hbm, 238, rfl⟩
abbrev main_v127 : Ref sig .tc := ⟨.hbm, 239, rfl⟩
abbrev main_cst_32 : Ref sig .tc := ⟨.hbm, 240, rfl⟩
abbrev main_v128 : Ref sig .tc := ⟨.hbm, 241, rfl⟩
abbrev main_v129 : Ref sig .tc := ⟨.hbm, 242, rfl⟩
abbrev main_v130 : Ref sig .tc := ⟨.hbm, 243, rfl⟩
abbrev main_v131 : Ref sig .tc := ⟨.hbm, 244, rfl⟩
abbrev main_v132 : Ref sig .tc := ⟨.hbm, 245, rfl⟩
abbrev main_v133 : Ref sig .tc := ⟨.hbm, 246, rfl⟩
abbrev main_cst_33 : Ref sig .tc := ⟨.hbm, 247, rfl⟩
abbrev main_v134 : Ref sig .tc := ⟨.hbm, 248, rfl⟩
abbrev main_cst_34 : Ref sig .tc := ⟨.hbm, 249, rfl⟩
abbrev main_v135 : Ref sig .tc := ⟨.hbm, 250, rfl⟩

abbrev nD : Nat := 1
abbrev τ : Topo := Topo.v7x

variable {F : FTy → Type} [FloatOps F]

def κ : String → Option EReal := fun
  | "tenToTwelve" => some ((1000000000000 : ℝ) : EReal)
  | _ => none

abbrev main_while0_count : Scf.Loop 32 := ⟨0#32, 256#32, 1#32⟩
-- ==== Proof.KernelBody.lean ====
/-
  The kernel's body, part by part: what each printed part leaves in the staging and scratch memrefs and what it returns,
  as values of the printed payloads.
-/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.ValueIdx
public import Idealize.ShloMosaic.Lib.Pipeline.Value
public import Idealize.ShloMosaic.Lib.WritesUnit

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- Offsets all zero, rank two. -/
theorem hz2 : (![0, 0] : Fin 2 → Nat) = fun _ => 0 := funext fun a => by fin_cases a <;> rfl
/-- Offsets all zero, rank three. -/
theorem hz3 : (![0, 0, 0] : Fin 3 → Nat) = fun _ => 0 := funext fun a => by fin_cases a <;> rfl
/-- Offsets all zero, rank four. -/
theorem hz4 : (![0, 0, 0, 0] : Fin 4 → Nat) = fun _ => 0 := funext fun a => by fin_cases a <;> rfl

/-- A store through the whole rectangle leaves its payload, whatever was stored before. -/
theorem read_whole_store {sig : RefSig} {κ : Kind} {sp : Space} {S : Shape} {e : EltTy} {Val : EltTy → Type}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w :=
  funext fun y => View.read_writes_cons_unit_of_mem v f inb w L y y h fun a => by simp

/-- The first distance loop runs 128 trips. -/
theorem trips1 : k0_t1_loop.trips = 128 := by decide +kernel
/-- So does the second. -/
theorem trips2 : k0_t2_loop.trips = 128 := by decide +kernel
/-- The search loop runs 17 trips. -/
theorem trips3 : k0_t3_loop.trips = 17 := by decide +kernel

/-- The row number of an index of the row tables. -/
def rowNo (y : S256x1x256.Idx) : Fin 256 := y 0
/-- The index of a one-row table at the same lane. -/
def lane (y : S256x1x256.Idx) : S1x1x256.Idx := ix3 0 0 (y 2)

/-- The trip of the first distance loop that writes row `n`. -/
def tr1 (n : Fin 256) : Fin k0_t1_loop.trips := ⟨n.val / 2, by rw [trips1]; have := n.isLt; omega⟩
/-- The trip of the second distance loop that writes row `n`. -/
def tr2 (n : Fin 256) : Fin k0_t2_loop.trips := ⟨n.val / 2, by rw [trips2]; have := n.isLt; omega⟩

/-- What the first loop leaves in its first result: row `n` is written by trip `n / 2`, even and odd rows by its two stores. -/
def rowsA1 (I A : Vec F S256x256 .f32) : Vec F S256x1x256 .f32 := fun y =>
  if (y 0).val % 2 = 0 then k0_pay6 0#32 1#32 (tr1 (rowNo y)) I A (lane y)
  else k0_pay29 (k0_pay8 0#32 1#32 (tr1 (rowNo y)) I A) (lane y)
/-- The same of its second result. -/
def rowsB1 (I B : Vec F S256x256 .f32) : Vec F S256x1x256 .f32 := fun y =>
  if (y 0).val % 2 = 0 then k0_pay7 0#32 1#32 (tr1 (rowNo y)) I B (lane y)
  else k0_pay30 (k0_pay9 0#32 1#32 (tr1 (rowNo y)) I B) (k0_pay10 (F := F) 0#32 1#32 (tr1 (rowNo y))) (lane y)
/-- What the second loop leaves in its first result. -/
def rowsA2 (I A : Vec F S256x256 .f32) : Vec F S256x1x256 .f32 := fun y =>
  if (y 0).val % 2 = 0 then k0_pay16 0#32 1#32 (tr2 (rowNo y)) I A (lane y)
  else k0_pay33 (k0_pay18 0#32 1#32 (tr2 (rowNo y)) I A) (lane y)
/-- The same of its second result. -/
def rowsB2 (I B : Vec F S256x256 .f32) : Vec F S256x1x256 .f32 := fun y =>
  if (y 0).val % 2 = 0 then k0_pay17 0#32 1#32 (tr2 (rowNo y)) I B (lane y)
  else k0_pay34 (k0_pay19 0#32 1#32 (tr2 (rowNo y)) I B) (k0_pay20 (F := F) 0#32 1#32 (tr2 (rowNo y))) (lane y)

/-- One trip's two row stores, read back: the even row and the odd row of the trip, and below them what was there. -/
theorem two_rows {sig : RefSig} {κ : Kind} {sp : Space} {e : EltTy} {Val : EltTy → Type}
    (v : View sig κ sp S256x1x256 e) (f : v.ty.Contents Val) (k : ℕ) {o1 o2 : Fin 3 → ℕ}
    (h1 : o1 = ![2 * k, 0, 0]) (h2 : o2 = ![2 * k + 1, 0, 0])
    (inb1 : ∀ a, o1 a + S1x1x256.size a ≤ S256x1x256.size a) (inb2 : ∀ a, o2 a + S1x1x256.size a ≤ S256x1x256.size a)
    (w1 w2 : S1x1x256.Idx → Val e) (G : S256x1x256.Idx → Val e)
    (hf : ∀ y : S256x1x256.Idx, (y 0).val < 2 * k → v.read Val f y = G y)
    (hg1 : ∀ y : S256x1x256.Idx, (y 0).val = 2 * k → w1 (lane y) = G y)
    (hg2 : ∀ y : S256x1x256.Idx, (y 0).val = 2 * k + 1 → w2 (lane y) = G y)
    (y : S256x1x256.Idx) (hy : (y 0).val < 2 * (k + 1)) :
    v.read Val (v.writes Val f [(⟨Rect.unit o2 S1x1x256.size inb2, w2⟩ : View.Piece Val S256x1x256 e), ⟨Rect.unit o1 S1x1x256.size inb1, w1⟩]) y = G y := by
  have hy1 : (y 1).val = 0 := by have : (y 1).val < 1 := (y 1).isLt; omega
  rcases (show (y 0).val = 2 * k + 1 ∨ (y 0).val = 2 * k ∨ (y 0).val < 2 * k by omega) with h | h | h
  · rw [View.read_writes_cons_unit_of_mem v f inb2 w2 _ y (lane y) h2 (fun a => by
      match a with
      | ⟨0, _⟩ => show (y 0).val = 2 * k + 1 + 0; omega
      | ⟨1, _⟩ => show (y 1).val = 0 + 0; omega
      | ⟨2, _⟩ => show (y 2).val = 0 + (y 2).val; omega)]
    exact hg2 y h
  · rw [View.read_writes_cons_unit_of_not_mem v f inb2 w2 _ y h2 0 (Or.inl (by show (y 0).val < 2 * k + 1; omega)),
      View.read_writes_cons_unit_of_mem v f inb1 w1 _ y (lane y) h1 (fun a => by
      match a with
      | ⟨0, _⟩ => show (y 0).val = 2 * k + 0; omega
      | ⟨1, _⟩ => show (y 1).val = 0 + 0; omega
      | ⟨2, _⟩ => show (y 2).val = 0 + (y 2).val; omega)]
    exact hg1 y h
  · rw [View.read_writes_cons_unit_of_not_mem v f inb2 w2 _ y h2 0 (Or.inl (by show (y 0).val < 2 * k + 1; omega)),
      View.read_writes_cons_unit_of_not_mem v f inb1 w1 _ y h1 0 (Or.inl (by show (y 0).val < 2 * k; omega)), View.writes_nil]
    exact hf y h

/-- One trip of the search: the two brackets, narrowed. -/
def stepS (v143 v171 : FVec F S1x1 .f32) (U1 U2 : Vec F S256x256 .f32)
    (s : IVec S1x1 32 × IVec S1x1 32 × IVec S1x1 32 × IVec S1x1 32) : IVec S1x1 32 × IVec S1x1 32 × IVec S1x1 32 × IVec S1x1 32 :=
  (k0_pay54 v143 s.1 s.2.1 U1, k0_pay55 v143 s.1 s.2.1 U1, k0_pay56 v171 s.2.2.1 s.2.2.2 U2, k0_pay57 v171 s.2.2.1 s.2.2.2 U2)

section Parts

variable (c : Dev nD) (E : Set ℕ) (i : grid0.Coords) (arg1 : Memref sig .tc .vmem S1x1x256x256 .f32) (harg1 : arg1.IsWhole) (arg2 : Memref sig .tc .vmem S1x1x256x256 .i32) (harg2 : arg2.IsWhole) (arg3 : Memref sig .tc .vmem S1x1x1 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1x256 .f32) (harg6 : arg6.IsWhole) (arg7 : Memref sig .tc .vmem S256x1x256 .f32) (harg7 : arg7.IsWhole) (arg8 : Memref sig .tc .vmem S256x1x256 .f32) (harg8 : arg8.IsWhole) (arg9 : Memref sig .tc .vmem S256x1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)

/-- The first part: the pred boundary is stored and the target's mask returned. -/
theorem part3_spec (x0 : Vec F S1x1x256x256 .f32) (x1 : Vec F S1x1x256x256 .i32) :
    iprop(owns (c : Thread nD τ) arg1 fullShare x0 ∗ owns (c : Thread nD τ) arg2 fullShare x1 ∗ (∃ d, owns (c : Thread nD τ) arg10 fullShare d))
      ⊢ wp (M := 𝕄) frame (wpE (defs₀ (F := F)) Variants.none c none) E (k0_part3 i arg1 harg1 arg2 harg2 arg3 harg3 arg4 harg4 arg5 harg5 arg6 harg6 arg7 harg7 arg8 harg8 arg9 harg9 arg10 harg10 arg11 harg11 arg12 harg12 arg13 harg13 arg14 harg14)
        (fun r => iprop(⌜r = k0_pay21 x1⌝ ∗ owns (c : Thread nD τ) arg1 fullShare x0 ∗ owns (c : Thread nD τ) arg2 fullShare x1 ∗ owns (c : Thread nD τ) arg10 fullShare (k0_pay22 x0))) := by
  simp only [k0_part3_eq_skeleton]
  unfold k0_part3_skel
  unfold owns
  iintro ⟨⟨%f0, %hf0, H0⟩, ⟨%f1, %hf1, H1⟩, ⟨%d2, %f2, -, H2⟩⟩
  sl_exec
  sl_step
  isplitr
  · ipureintro
    simp only [View.readAt_eq_ld, hf0, hf1, View.ld_unit_zero (S := S1x1x256x256) hz4]
  isplitl [H0]
  · (iexists _; isplitr; swap; focus (iexact H0)); ipureintro; exact hf0
  isplitl [H1]
  · (iexists _; isplitr; swap; focus (iexact H1)); ipureintro; exact hf1
  iexists _; isplitr; swap; · iexact H2
  ipureintro
  rw [read_whole_store (S := S256x256) _ _ hz2]
  simp only [View.readAt_eq_ld, hf0, hf1, View.ld_unit_zero (S := S1x1x256x256) hz4]

/-- The second part: the target boundary, the doubled row numbers and the first cost table are stored. -/
theorem part4_spec (v14 : FVec F S256x256 .f32) :
    iprop((∃ d, owns (c : Thread nD τ) arg11 fullShare d) ∗ (∃ d, owns (c : Thread nD τ) arg12 fullShare d) ∗ (∃ d, owns (c : Thread nD τ) arg4 fullShare d))
      ⊢ wp (M := 𝕄) frame (wpE (defs₀ (F := F)) Variants.none c none) E (k0_part4 i arg1 harg1 arg2 harg2 arg3 harg3 arg4 harg4 arg5 harg5 arg6 harg6 arg7 harg7 arg8 harg8 arg9 harg9 arg10 harg10 arg11 harg11 arg12 harg12 arg13 harg13 arg14 harg14 v14)
        (fun r => iprop(⌜r = k0_pay26 (F := F)⌝ ∗ owns (c : Thread nD τ) arg11 fullShare (k0_pay23 v14) ∗ owns (c : Thread nD τ) arg12 fullShare (k0_pay25 (F := F)) ∗ owns (c : Thread nD τ) arg4 fullShare (k0_pay27 (k0_pay23 v14)))) := by
  simp only [k0_part4_eq_skeleton]
  unfold k0_part4_skel
  unfold owns
  iintro ⟨⟨%d11, %f11, -, H11⟩, ⟨%d12, %f12, -, H12⟩, ⟨%d4, %f4, -, H4⟩⟩
  sl_exec
  sl_step
  isplitr
  · ipureintro; rfl
  isplitl [H11]
  · iexists _; isplitr; swap; · iexact H11
    ipureintro; sl_unfold_words; rw [read_whole_store (S := S256x256) _ _ hz2]
  isplitl [H12]
  · iexists _; isplitr; swap; · iexact H12
    ipureintro; sl_unfold_words; rw [read_whole_store (S := S256x256) _ _ hz2]
  iexists _; isplitr; swap; · iexact H4
  ipureintro
  sl_unfold_words
  rw [read_whole_store (S := S256x256) _ _ hz2]
  simp only [View.readCov_unit_zero (S := S256x256) _ hz2, View.readAt_eq_ld, read_whole_store (S := S256x256) _ _ hz2, View.ld_unit_zero (S := S256x256) hz2]

/-- Before trip `k` of the first distance loop the rows below `2 k` are written. -/
def inv1 (I A B : Vec F S256x256 .f32) (k : ℕ) : sProp 𝕄 :=
  iprop(owns (c : Thread nD τ) arg12 fullShare I ∗ owns (c : Thread nD τ) arg4 fullShare A ∗ owns (c : Thread nD τ) arg5 fullShare B
    ∗ (∃ d, ⌜∀ y : S256x1x256.Idx, (y 0).val < 2 * k → d y = rowsA1 I A y⌝ ∗ owns (c : Thread nD τ) arg6 fullShare d)
    ∗ (∃ d, ⌜∀ y : S256x1x256.Idx, (y 0).val < 2 * k → d y = rowsB1 I B y⌝ ∗ owns (c : Thread nD τ) arg7 fullShare d))

/-- One trip keeps that. -/
theorem loop1_step (v65 : FVec F S256x256 .f32) (I A B : Vec F S256x256 .f32) (k : Fin k0_t1_loop.trips) (acc : Unit) :
    inv1 c arg4 arg5 arg6 arg7 arg12 I A B k.val
      ⊢ wp (M := 𝕄) frame (wpE (defs₀ (F := F)) Variants.none c none) E (k0_t1_body i arg1 harg1 arg2 harg2 arg3 harg3 arg4 harg4 arg5 harg5 arg6 harg6 arg7 harg7 arg8 harg8 arg9 harg9 arg10 harg10 arg11 harg11 arg12 harg12 arg13 harg13 arg14 harg14 v65 k acc) (fun _ => inv1 c arg4 arg5 arg6 arg7 arg12 I A B (k.val + 1)) := by
  have hk : k.val < 128 := Nat.lt_of_lt_of_le k.isLt k0_t1_abs.2.1
  have htr0 : ∀ y : S256x1x256.Idx, (y 0).val = 2 * k.val → tr1 (rowNo y) = k := fun y h => Fin.ext (by show (y 0).val / 2 = k.val; omega)
  have htr1 : ∀ y : S256x1x256.Idx, (y 0).val = 2 * k.val + 1 → tr1 (rowNo y) = k := fun y h => Fin.ext (by show (y 0).val / 2 = k.val; omega)
  unfold k0_t1_body inv1 owns
  iintro ⟨⟨%f12, %hf12, H12⟩, ⟨%f4, %hf4, H4⟩, ⟨%f5, %hf5, H5⟩, ⟨%d6, %hd6, %f6, %hf6, H6⟩, ⟨%d7, %hd7, %f7, %hf7, H7⟩⟩
  sl_exec
  sl_step
  isplitl [H12]
  · (iexists _; isplitr; swap; focus (iexact H12)); ipureintro; exact hf12
  isplitl [H4]
  · (iexists _; isplitr; swap; focus (iexact H4)); ipureintro; exact hf4
  isplitl [H5]
  · (iexists _; isplitr; swap; focus (iexact H5)); ipureintro; exact hf5
  isplitl [H6]
  · iexists _; isplitr; swap
    · iexists _; isplitr; swap; · iexact H6
      ipureintro; rfl
    ipureintro
    refine two_rows _ _ k.val (k0_off1_eq k) (k0_off2_eq k) _ _ _ _ _ (fun y h => (congrFun hf6 y).trans (hd6 y h)) ?_ ?_
    · intro y h
      unfold rowsA1
      rw [if_pos (by omega), htr0 y h]
      sl_unfold_words
      simp only [View.readAt_eq_ld, hf12, hf4, hf5, View.ld_unit_zero (S := S256x256) hz2]
      rfl
    · intro y h
      unfold rowsA1
      rw [if_neg (by omega), htr1 y h]
      sl_unfold_words
      simp only [View.readAt_eq_ld, hf12, hf4, hf5, View.ld_unit_zero (S := S256x256) hz2]
      rfl
  · iexists _; isplitr; swap
    · iexists _; isplitr; swap; · iexact H7
      ipureintro; rfl
    ipureintro
    refine two_rows _ _ k.val (k0_off1_eq k) (k0_off2_eq k) _ _ _ _ _ (fun y h => (congrFun hf7 y).trans (hd7 y h)) ?_ ?_
    · intro y h
      unfold rowsB1
      rw [if_pos (by omega), htr0 y h]
      sl_unfold_words
      simp only [View.readAt_eq_ld, hf12, hf4, hf5, View.ld_unit_zero (S := S256x256) hz2]
      rfl
    · intro y h
      unfold rowsB1
      rw [if_neg (by omega), htr1 y h]
      sl_unfold_words
      simp only [View.readAt_eq_ld, hf12, hf4, hf5, View.ld_unit_zero (S := S256x256) hz2]
      rfl

/-- Before trip `k` of the second distance loop the rows below `2 k` are written. -/
def inv2 (I A B : Vec F S256x256 .f32) (k : ℕ) : sProp 𝕄 :=
  iprop(owns (c : Thread nD τ) arg12 fullShare I ∗ owns (c : Thread nD τ) arg4 fullShare A ∗ owns (c : Thread nD τ) arg5 fullShare B
    ∗ (∃ d, ⌜∀ y : S256x1x256.Idx, (y 0).val < 2 * k → d y = rowsA2 I A y⌝ ∗ owns (c : Thread nD τ) arg8 fullShare d)
    ∗ (∃ d, ⌜∀ y : S256x1x256.Idx, (y 0).val < 2 * k → d y = rowsB2 I B y⌝ ∗ owns (c : Thread nD τ) arg9 fullShare d))

/-- One trip keeps that. -/
theorem loop2_step (v65 : FVec F S256x256 .f32) (I A B : Vec F S256x256 .f32) (k : Fin k0_t2_loop.trips) (acc : Unit) :
    inv2 c arg4 arg5 arg8 arg9 arg12 I A B k.val
      ⊢ wp (M := 𝕄) frame (wpE (defs₀ (F := F)) Variants.none c none) E (k0_t2_body i arg1 harg1 arg2 harg2 arg3 harg3 arg4 harg4 arg5 harg5 arg6 harg6 arg7 harg7 arg8 harg8 arg9 harg9 arg10 harg10 arg11 harg11 arg12 harg12 arg13 harg13 arg14 harg14 v65 k acc) (fun _ => inv2 c arg4 arg5 arg8 arg9 arg12 I A B (k.val + 1)) := by
  have hk : k.val < 128 := Nat.lt_of_lt_of_le k.isLt k0_t2_abs.2.1
  have htr0 : ∀ y : S256x1x256.Idx, (y 0).val = 2 * k.val → tr2 (rowNo y) = k := fun y h => Fin.ext (by show (y 0).val / 2 = k.val; omega)
  have htr1 : ∀ y : S256x1x256.Idx, (y 0).val = 2 * k.val + 1 → tr2 (rowNo y) = k := fun y h => Fin.ext (by show (y 0).val / 2 = k.val; omega)
  unfold k0_t2_body inv2 owns
  iintro ⟨⟨%f12, %hf12, H12⟩, ⟨%f4, %hf4, H4⟩, ⟨%f5, %hf5, H5⟩, ⟨%d8, %hd8, %f8, %hf8, H8⟩, ⟨%d9, %hd9, %f9, %hf9, H9⟩⟩
  sl_exec
  sl_step
  isplitl [H12]
  · (iexists _; isplitr; swap; focus (iexact H12)); ipureintro; exact hf12
  isplitl [H4]
  · (iexists _; isplitr; swap; focus (iexact H4)); ipureintro; exact hf4
  isplitl [H5]
  · (iexists _; isplitr; swap; focus (iexact H5)); ipureintro; exact hf5
  isplitl [H8]
  · iexists _; isplitr; swap
    · iexists _; isplitr; swap; · iexact H8
      ipureintro; rfl
    ipureintro
    refine two_rows _ _ k.val (k0_off3_eq k) (k0_off4_eq k) _ _ _ _ _ (fun y h => (congrFun hf8 y).trans (hd8 y h)) ?_ ?_
    · intro y h
      unfold rowsA2
      rw [if_pos (by omega), htr0 y h]
      sl_unfold_words
      simp only [View.readAt_eq_ld, hf12, hf4, hf5, View.ld_unit_zero (S := S256x256) hz2]
      rfl
    · intro y h
      unfold rowsA2
      rw [if_neg (by omega), htr1 y h]
      sl_unfold_words
      simp only [View.readAt_eq_ld, hf12, hf4, hf5, View.ld_unit_zero (S := S256x256) hz2]
      rfl
  · iexists _; isplitr; swap
    · iexists _; isplitr; swap; · iexact H9
      ipureintro; rfl
    ipureintro
    refine two_rows _ _ k.val (k0_off3_eq k) (k0_off4_eq k) _ _ _ _ _ (fun y h => (congrFun hf9 y).trans (hd9 y h)) ?_ ?_
    · intro y h
      unfold rowsB2
      rw [if_pos (by omega), htr0 y h]
      sl_unfold_words
      simp only [View.readAt_eq_ld, hf12, hf4, hf5, View.ld_unit_zero (S := S256x256) hz2]
      rfl
    · intro y h
      unfold rowsB2
      rw [if_neg (by omega), htr1 y h]
      sl_unfold_words
      simp only [View.readAt_eq_ld, hf12, hf4, hf5, View.ld_unit_zero (S := S256x256) hz2]
      rfl

/-- The row tables after the first loop. -/
theorem part5_spec (v65 : FVec F S256x256 .f32) (I A Ep : Vec F S256x256 .f32) :
    iprop(owns (c : Thread nD τ) arg12 fullShare I ∗ owns (c : Thread nD τ) arg4 fullShare A ∗ owns (c : Thread nD τ) arg10 fullShare Ep ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d))
      ⊢ wp (M := 𝕄) frame (wpE (defs₀ (F := F)) Variants.none c none) E (k0_part5 i arg1 harg1 arg2 harg2 arg3 harg3 arg4 harg4 arg5 harg5 arg6 harg6 arg7 harg7 arg8 harg8 arg9 harg9 arg10 harg10 arg11 harg11 arg12 harg12 arg13 harg13 arg14 harg14 v65)
        (fun r => iprop(⌜r = ⟨Ep, Scalar.ofBits .f32 0x3F000000#32⟩⌝ ∗ owns (c : Thread nD τ) arg12 fullShare I ∗ owns (c : Thread nD τ) arg10 fullShare Ep ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
          ∗ owns (c : Thread nD τ) arg8 fullShare (rowsA2 I (k0_pay31 v65 (rowsA1 I A)))
          ∗ owns (c : Thread nD τ) arg9 fullShare (rowsB2 I (k0_pay32 v65 (rowsB1 I (k0_pay28 v65 Ep)))))) := by
  simp only [k0_part5_eq_skeleton]
  unfold k0_part5_skel
  unfold owns
  iintro ⟨⟨%f12, %hf12, H12⟩, ⟨%f4, %hf4, H4⟩, ⟨%f10, %hf10, H10⟩, ⟨%d5, %f5, -, H5⟩, ⟨%d6, %f6, %hf6, H6⟩, ⟨%d7, %f7, %hf7, H7⟩, ⟨%d8, %f8, %hf8, H8⟩, ⟨%d9, %f9, %hf9, H9⟩⟩
  sl_exec
  iapply (Scf.wp_for_bind frame (wpE (defs₀ (F := F)) Variants.none c none) E _ _ _ k0_t1_ok ⟨⟩ _
    (fun k _ => inv1 c arg4 arg5 arg6 arg7 arg12 I A (k0_pay28 v65 Ep) k)
    (fun k acc => loop1_step c E i arg1 harg1 arg2 harg2 arg3 harg3 arg4 harg4 arg5 harg5 arg6 harg6 arg7 harg7 arg8 harg8 arg9 harg9 arg10 harg10 arg11 harg11 arg12 harg12 arg13 harg13 arg14 harg14 v65 I A (k0_pay28 v65 Ep) k acc)) $$ [H12 H4 H5 H6 H7]
  · unfold inv1 owns
    isplitl [H12]
    · (iexists _; isplitr; swap; focus (iexact H12)); ipureintro; exact hf12
    isplitl [H4]
    · (iexists _; isplitr; swap; focus (iexact H4)); ipureintro; exact hf4
    isplitl [H5]
    · iexists _; isplitr; swap; · iexact H5
      ipureintro; sl_unfold_words
      rw [read_whole_store (S := S256x256) _ _ hz2]
      simp only [View.readAt_eq_ld, hf10, View.ld_unit_zero (S := S256x256) hz2]
    isplitl [H6]
    · iexists d6; isplitr; · ipureintro; intro y h; exact absurd h (by omega)
      · (iexists _; isplitr; swap; focus (iexact H6)); ipureintro; exact hf6
    iexists d7; isplitr; · ipureintro; intro y h; exact absurd h (by omega)
    · (iexists _; isplitr; swap; focus (iexact H7)); ipureintro; exact hf7
  iintro %acc
  unfold inv1 owns
  iintro ⟨⟨%g12, %hg12, H12⟩, ⟨%g4, %hg4, H4⟩, ⟨%g5, %hg5, H5⟩, ⟨%e6, %he6, %g6, %hg6, H6⟩, ⟨%e7, %he7, %g7, %hg7, H7⟩⟩
  have he6' : e6 = rowsA1 I A := funext fun y => he6 y (by have h : Scf.Loop.trips k0_t1_loop = 128 := trips1; have : (y 0).val < 256 := (y 0).isLt; unfold Scf.Loop.trips at h; omega)
  have he7' : e7 = rowsB1 I (k0_pay28 v65 Ep) := funext fun y => he7 y (by have h : Scf.Loop.trips k0_t1_loop = 128 := trips1; have : (y 0).val < 256 := (y 0).isLt; unfold Scf.Loop.trips at h; omega)
  sl_exec
  iapply (Scf.wp_for_bind frame (wpE (defs₀ (F := F)) Variants.none c none) E _ _ _ k0_t2_ok ⟨⟩ _
    (fun k _ => inv2 c arg4 arg5 arg8 arg9 arg12 I (k0_pay31 v65 (rowsA1 I A)) (k0_pay32 v65 (rowsB1 I (k0_pay28 v65 Ep))) k)
    (fun k acc => loop2_step c E i arg1 harg1 arg2 harg2 arg3 harg3 arg4 harg4 arg5 harg5 arg6 harg6 arg7 harg7 arg8 harg8 arg9 harg9 arg10 harg10 arg11 harg11 arg12 harg12 arg13 harg13 arg14 harg14 v65 I _ _ k acc)) $$ [H12 H4 H5 H8 H9]
  · unfold inv2 owns
    isplitl [H12]
    · (iexists _; isplitr; swap; focus (iexact H12)); ipureintro; exact hg12
    isplitl [H4]
    · iexists _; isplitr; swap; · iexact H4
      ipureintro; sl_unfold_words
      rw [read_whole_store (S := S256x256) _ _ hz2]
      simp only [View.readAt_eq_ld, hg6, he6', View.ld_unit_zero (S := S256x1x256) hz3]
    isplitl [H5]
    · iexists _; isplitr; swap; · iexact H5
      ipureintro; sl_unfold_words
      rw [read_whole_store (S := S256x256) _ _ hz2]
      simp only [View.readAt_eq_ld, hg7, he7', View.ld_unit_zero (S := S256x1x256) hz3]
    isplitl [H8]
    · iexists d8; isplitr; · ipureintro; intro y h; exact absurd h (by omega)
      · (iexists _; isplitr; swap; focus (iexact H8)); ipureintro; exact hf8
    iexists d9; isplitr; · ipureintro; intro y h; exact absurd h (by omega)
    · (iexists _; isplitr; swap; focus (iexact H9)); ipureintro; exact hf9
  iintro %acc2
  unfold inv2 owns
  iintro ⟨⟨%p12, %hp12, H12⟩, ⟨%p4, %hp4, H4⟩, ⟨%p5, %hp5, H5⟩, ⟨%e8, %he8, %p8, %hp8, H8⟩, ⟨%e9, %he9, %p9, %hp9, H9⟩⟩
  have he8' : e8 = rowsA2 I (k0_pay31 v65 (rowsA1 I A)) := funext fun y => he8 y (by have h : Scf.Loop.trips k0_t2_loop = 128 := trips2; have : (y 0).val < 256 := (y 0).isLt; unfold Scf.Loop.trips at h; omega)
  have he9' : e9 = rowsB2 I (k0_pay32 v65 (rowsB1 I (k0_pay28 v65 Ep))) := funext fun y => he9 y (by have h : Scf.Loop.trips k0_t2_loop = 128 := trips2; have : (y 0).val < 256 := (y 0).isLt; unfold Scf.Loop.trips at h; omega)
  subst he8' he9'
  sl_exec
  sl_step
  isplitr
  · ipureintro
    sl_unfold_words
    simp only [View.readAt_eq_ld, hf10, View.ld_unit_zero (S := S256x256) hz2]
  isplitl [H12]
  · (iexists _; isplitr; swap; focus (iexact H12)); ipureintro; exact hp12
  isplitl [H10]
  · (iexists _; isplitr; swap; focus (iexact H10)); ipureintro; exact hf10
  isplitl [H4]
  · iexists _
    · (iexists _; isplitr; swap; focus (iexact H4)); ipureintro; exact rfl
  isplitl [H5]
  · iexists _
    · (iexists _; isplitr; swap; focus (iexact H5)); ipureintro; exact rfl
  isplitl [H6]
  · iexists _
    · (iexists _; isplitr; swap; focus (iexact H6)); ipureintro; exact rfl
  isplitl [H7]
  · iexists _
    · (iexists _; isplitr; swap; focus (iexact H7)); ipureintro; exact rfl
  isplitl [H8]
  · (iexists _; isplitr; swap; focus (iexact H8)); ipureintro; exact hp8
  · (iexists _; isplitr; swap; focus (iexact H9)); ipureintro; exact hp9

/-- The two tables of squared distances are stored, with the background at the fill value. -/
theorem part6_spec (v104 : Vec F S256x256 .f32) (cst : F .f32) (Ep Eg : Vec F S256x256 .f32) (A B : Vec F S256x1x256 .f32) :
    iprop(owns (c : Thread nD τ) arg8 fullShare A ∗ owns (c : Thread nD τ) arg9 fullShare B ∗ owns (c : Thread nD τ) arg10 fullShare Ep ∗ owns (c : Thread nD τ) arg11 fullShare Eg ∗ (∃ d, owns (c : Thread nD τ) arg13 fullShare d) ∗ (∃ d, owns (c : Thread nD τ) arg14 fullShare d))
      ⊢ wp (M := 𝕄) frame (wpE (defs₀ (F := F)) Variants.none c none) E (k0_part6 i arg1 harg1 arg2 harg2 arg3 harg3 arg4 harg4 arg5 harg5 arg6 harg6 arg7 harg7 arg8 harg8 arg9 harg9 arg10 harg10 arg11 harg11 arg12 harg12 arg13 harg13 arg14 harg14 v104 cst)
        (fun r => iprop(⌜r = ⟨k0_pay38 Ep, k0_pay39 Ep, Scalar.ofBits .f32 0x477FFF00#32, k0_pay40 Ep⟩⌝ ∗ owns (c : Thread nD τ) arg8 fullShare A ∗ owns (c : Thread nD τ) arg9 fullShare B ∗ owns (c : Thread nD τ) arg10 fullShare Ep ∗ owns (c : Thread nD τ) arg11 fullShare Eg
          ∗ owns (c : Thread nD τ) arg13 fullShare (k0_pay35 v104 cst A) ∗ owns (c : Thread nD τ) arg14 fullShare (k0_pay36 Eg B))) := by
  simp only [k0_part6_eq_skeleton]
  unfold k0_part6_skel
  unfold owns
  iintro ⟨⟨%f8, %hf8, H8⟩, ⟨%f9, %hf9, H9⟩, ⟨%f10, %hf10, H10⟩, ⟨%f11, %hf11, H11⟩, ⟨%d13, %f13, -, H13⟩, ⟨%d14, %f14, -, H14⟩⟩
  sl_exec
  sl_step
  isplitr
  · ipureintro
    sl_unfold_words
    simp only [View.readAt_eq_ld, hf10, View.ld_unit_zero (S := S256x256) hz2]
  isplitl [H8]
  · (iexists _; isplitr; swap; focus (iexact H8)); ipureintro; exact hf8
  isplitl [H9]
  · (iexists _; isplitr; swap; focus (iexact H9)); ipureintro; exact hf9
  isplitl [H10]
  · (iexists _; isplitr; swap; focus (iexact H10)); ipureintro; exact hf10
  isplitl [H11]
  · (iexists _; isplitr; swap; focus (iexact H11)); ipureintro; exact hf11
  isplitl [H13]
  · iexists _; isplitr; swap; · iexact H13
    ipureintro; sl_unfold_words
    rw [read_whole_store (S := S256x256) _ _ hz2]
    simp only [View.readAt_eq_ld, hf8, View.ld_unit_zero (S := S256x1x256) hz3]
  iexists _; isplitr; swap; · iexact H14
  ipureintro; sl_unfold_words
  rw [read_whole_store (S := S256x256) _ _ hz2]
  simp only [View.readAt_eq_ld, hf9, hf11, View.ld_unit_zero (S := S256x1x256) hz3, View.ld_unit_zero (S := S256x256) hz2]

/-- The ranks and weights of the second image. -/
theorem part7_spec (v136 : FVec F S1x1 .f32) (cst : F .f32) (v139 : FVec F S1x1 .f32) (Eg : Vec F S256x256 .f32) :
    iprop(owns (c : Thread nD τ) arg11 fullShare Eg)
      ⊢ wp (M := 𝕄) frame (wpE (defs₀ (F := F)) Variants.none c none) E (k0_part7 i arg1 harg1 arg2 harg2 arg3 harg3 arg4 harg4 arg5 harg5 arg6 harg6 arg7 harg7 arg8 harg8 arg9 harg9 arg10 harg10 arg11 harg11 arg12 harg12 arg13 harg13 arg14 harg14 v136 cst v139)
        (fun r => iprop(⌜r = ⟨k0_pay41 cst v139, k0_pay42 v136, k0_pay45 Eg, k0_pay46 Eg, k0_pay47 Eg, k0_pay48⟩⌝ ∗ owns (c : Thread nD τ) arg11 fullShare Eg)) := by
  simp only [k0_part7_eq_skeleton]
  unfold k0_part7_skel
  unfold owns
  iintro ⟨%f11, %hf11, H11⟩
  sl_exec
  sl_step
  isplitr
  · ipureintro
    sl_unfold_words
    simp only [View.readAt_eq_ld, hf11, View.ld_unit_zero (S := S256x256) hz2]
  · (iexists _; isplitr; swap; focus (iexact H11)); ipureintro; exact hf11

/-- Before trip `k` of the search the brackets are the `k`-fold step of the first ones. -/
def inv3 (v143 v171 : FVec F S1x1 .f32) (U1 U2 : Vec F S256x256 .f32) (s0 : IVec S1x1 32 × IVec S1x1 32 × IVec S1x1 32 × IVec S1x1 32)
    (k : ℕ) (s : IVec S1x1 32 × IVec S1x1 32 × IVec S1x1 32 × IVec S1x1 32) : sProp 𝕄 :=
  iprop(⌜s = (stepS v143 v171 U1 U2)^[k] s0⌝ ∗ owns (c : Thread nD τ) arg13 fullShare U1 ∗ owns (c : Thread nD τ) arg14 fullShare U2)

/-- One trip keeps that. -/
theorem loop3_step (v143 v171 : FVec F S1x1 .f32) (v180 : IVec S1x1 32) (U1 U2 : Vec F S256x256 .f32) (s0 : IVec S1x1 32 × IVec S1x1 32 × IVec S1x1 32 × IVec S1x1 32)
    (k : Fin k0_t3_loop.trips) (acc : IVec S1x1 32 × IVec S1x1 32 × IVec S1x1 32 × IVec S1x1 32) :
    inv3 c arg13 arg14 v143 v171 U1 U2 s0 k.val acc
      ⊢ wp (M := 𝕄) frame (wpE (defs₀ (F := F)) Variants.none c none) E (k0_t3_body i arg1 harg1 arg2 harg2 arg3 harg3 arg4 harg4 arg5 harg5 arg6 harg6 arg7 harg7 arg8 harg8 arg9 harg9 arg10 harg10 arg11 harg11 arg12 harg12 arg13 harg13 arg14 harg14 v143 v171 v180 k acc) (fun r => inv3 c arg13 arg14 v143 v171 U1 U2 s0 (k.val + 1) r) := by
  unfold k0_t3_body inv3 owns
  iintro ⟨%hacc, ⟨%f13, %hf13, H13⟩, ⟨%f14, %hf14, H14⟩⟩
  sl_exec
  sl_step
  isplitr
  · ipureintro
    rw [Function.iterate_succ_apply', ← hacc]
    sl_unfold_words
    simp only [View.readAt_eq_ld, hf13, hf14, View.ld_unit_zero (S := S256x256) hz2]
    rfl
  isplitl [H13]
  · (iexists _; isplitr; swap; focus (iexact H13)); ipureintro; exact hf13
  · (iexists _; isplitr; swap; focus (iexact H14)); ipureintro; exact hf14

/-- The brackets the search starts from. -/
def s0S (v180 : IVec S1x1 32) : IVec S1x1 32 × IVec S1x1 32 × IVec S1x1 32 × IVec S1x1 32 := (v180, k0_pay49, v180, k0_pay49)

/-- The search. -/
theorem part8_spec (v143 v171 : FVec F S1x1 .f32) (v180 : IVec S1x1 32) (U1 U2 : Vec F S256x256 .f32) :
    iprop(owns (c : Thread nD τ) arg13 fullShare U1 ∗ owns (c : Thread nD τ) arg14 fullShare U2)
      ⊢ wp (M := 𝕄) frame (wpE (defs₀ (F := F)) Variants.none c none) E (k0_part8 i arg1 harg1 arg2 harg2 arg3 harg3 arg4 harg4 arg5 harg5 arg6 harg6 arg7 harg7 arg8 harg8 arg9 harg9 arg10 harg10 arg11 harg11 arg12 harg12 arg13 harg13 arg14 harg14 v143 v171 v180)
        (fun r => iprop(⌜r = ⟨((stepS v143 v171 U1 U2)^[17] (s0S v180)).1, ((stepS v143 v171 U1 U2)^[17] (s0S v180)).2.2.1, k0_pay58 U1, k0_pay59 U2, k0_pay60 U1⟩⌝
          ∗ owns (c : Thread nD τ) arg13 fullShare U1 ∗ owns (c : Thread nD τ) arg14 fullShare U2)) := by
  simp only [k0_part8_eq_skeleton]
  unfold k0_part8_skel
  unfold owns
  iintro ⟨⟨%f13, %hf13, H13⟩, ⟨%f14, %hf14, H14⟩⟩
  iapply (Scf.wp_for_bind frame (wpE (defs₀ (F := F)) Variants.none c none) E _ _ _ k0_t3_ok (s0S v180) _
    (fun k s => inv3 c arg13 arg14 v143 v171 U1 U2 (s0S v180) k s)
    (fun k acc => loop3_step c E i arg1 harg1 arg2 harg2 arg3 harg3 arg4 harg4 arg5 harg5 arg6 harg6 arg7 harg7 arg8 harg8 arg9 harg9 arg10 harg10 arg11 harg11 arg12 harg12 arg13 harg13 arg14 harg14 v143 v171 v180 U1 U2 (s0S v180) k acc)) $$ [H13 H14]
  · unfold inv3 owns
    isplitr
    · ipureintro; rfl
    isplitl [H13]
    · (iexists _; isplitr; swap; focus (iexact H13)); ipureintro; exact hf13
    · (iexists _; isplitr; swap; focus (iexact H14)); ipureintro; exact hf14
  iintro %acc
  unfold inv3 owns
  iintro ⟨%hacc, ⟨%g13, %hg13, H13⟩, ⟨%g14, %hg14, H14⟩⟩
  obtain ⟨a0, a1, a2, a3⟩ := acc
  have h17 : (a0, a1, a2, a3) = (stepS v143 v171 U1 U2)^[17] (s0S v180) := by
    rw [← trips3]; exact hacc
  sl_exec
  sl_step
  isplitr
  · ipureintro
    rw [← h17]
    sl_unfold_words
    simp only [View.readAt_eq_ld, hg13, hg14, View.ld_unit_zero (S := S256x256) hz2]
  isplitl [H13]
  · (iexists _; isplitr; swap; focus (iexact H13)); ipureintro; exact hg13
  · (iexists _; isplitr; swap; focus (iexact H14)); ipureintro; exact hg14

/-- The three large levels' counts. -/
theorem part9_spec (U1 U2 : Vec F S256x256 .f32) :
    iprop(owns (c : Thread nD τ) arg13 fullShare U1 ∗ owns (c : Thread nD τ) arg14 fullShare U2)
      ⊢ wp (M := 𝕄) frame (wpE (defs₀ (F := F)) Variants.none c none) E (k0_part9 i arg1 harg1 arg2 harg2 arg3 harg3 arg4 harg4 arg5 harg5 arg6 harg6 arg7 harg7 arg8 harg8 arg9 harg9 arg10 harg10 arg11 harg11 arg12 harg12 arg13 harg13 arg14 harg14)
        (fun r => iprop(⌜r = ⟨k0_pay61 U2, k0_pay62 U1, k0_pay63 U2, k0_pay64 U1⟩⌝ ∗ owns (c : Thread nD τ) arg13 fullShare U1 ∗ owns (c : Thread nD τ) arg14 fullShare U2)) := by
  simp only [k0_part9_eq_skeleton]
  unfold k0_part9_skel
  unfold owns
  iintro ⟨⟨%f13, %hf13, H13⟩, ⟨%f14, %hf14, H14⟩⟩
  sl_exec
  sl_step
  isplitr
  · ipureintro
    sl_unfold_words
    simp only [View.readAt_eq_ld, hf13, hf14, View.ld_unit_zero (S := S256x256) hz2]
  isplitl [H13]
  · (iexists _; isplitr; swap; focus (iexact H13)); ipureintro; exact hf13
  · (iexists _; isplitr; swap; focus (iexact H14)); ipureintro; exact hf14

/-- The selected values at both ranks, and the counts at them. -/
theorem part10_spec (v143 v171 : FVec F S1x1 .f32) (v183_0 v183_2 : IVec S1x1 32) (v194 v205 v216 v227 v238 v249 : FVec F S1x1 .f32)
    (v255 : FVec F S256x256 .f32) (U1 U2 : Vec F S256x256 .f32) :
    iprop(owns (c : Thread nD τ) arg13 fullShare U1 ∗ owns (c : Thread nD τ) arg14 fullShare U2)
      ⊢ wp (M := 𝕄) frame (wpE (defs₀ (F := F)) Variants.none c none) E (k0_part10 i arg1 harg1 arg2 harg2 arg3 harg3 arg4 harg4 arg5 harg5 arg6 harg6 arg7 harg7 arg8 harg8 arg9 harg9 arg10 harg10 arg11 harg11 arg12 harg12 arg13 harg13 arg14 harg14 v143 v171 v183_0 v183_2 v194 v205 v216 v227 v238 v249 v255)
        (fun r => iprop(⌜r = ⟨k0_pay65 v143 v183_0 v194 v216 v238 v255, k0_pay66 v171 v183_2 v205 v227 v249 U2, U1⟩⌝ ∗ owns (c : Thread nD τ) arg13 fullShare U1 ∗ owns (c : Thread nD τ) arg14 fullShare U2)) := by
  simp only [k0_part10_eq_skeleton]
  unfold k0_part10_skel
  unfold owns
  iintro ⟨⟨%f13, %hf13, H13⟩, ⟨%f14, %hf14, H14⟩⟩
  sl_exec
  sl_step
  isplitr
  · ipureintro
    sl_unfold_words
    simp only [View.readAt_eq_ld, hf13, hf14, View.ld_unit_zero (S := S256x256) hz2]
  isplitl [H13]
  · (iexists _; isplitr; swap; focus (iexact H13)); ipureintro; exact hf13
  · (iexists _; isplitr; swap; focus (iexact H14)); ipureintro; exact hf14

/-- The next larger values. -/
theorem part11_spec (v284 v297 : FVec F S1x1 .f32) (v298 U1 U2 : Vec F S256x256 .f32) :
    iprop(owns (c : Thread nD τ) arg13 fullShare U1 ∗ owns (c : Thread nD τ) arg14 fullShare U2)
      ⊢ wp (M := 𝕄) frame (wpE (defs₀ (F := F)) Variants.none c none) E (k0_part11 i arg1 harg1 arg2 harg2 arg3 harg3 arg4 harg4 arg5 harg5 arg6 harg6 arg7 harg7 arg8 harg8 arg9 harg9 arg10 harg10 arg11 harg11 arg12 harg12 arg13 harg13 arg14 harg14 v284 v297 v298)
        (fun r => iprop(⌜r = ⟨k0_pay67 v284 v298, k0_pay68 v297 U2, k0_pay69 v284 U1 U1, k0_pay70 v297 U2 U2⟩⌝ ∗ owns (c : Thread nD τ) arg13 fullShare U1 ∗ owns (c : Thread nD τ) arg14 fullShare U2)) := by
  simp only [k0_part11_eq_skeleton]
  unfold k0_part11_skel
  unfold owns
  iintro ⟨⟨%f13, %hf13, H13⟩, ⟨%f14, %hf14, H14⟩⟩
  sl_exec
  sl_step
  isplitr
  · ipureintro
    sl_unfold_words
    simp only [View.readAt_eq_ld, hf13, hf14, View.ld_unit_zero (S := S256x256) hz2]
  isplitl [H13]
  · (iexists _; isplitr; swap; focus (iexact H13)); ipureintro; exact hf13
  · (iexists _; isplitr; swap; focus (iexact H14)); ipureintro; exact hf14

end Parts

/-! ### The value of one block -/

/-- The pred boundary. -/
def epV (x0 : Vec F S1x1x256x256 .f32) : Vec F S256x256 .f32 := k0_pay22 x0
/-- The target boundary. -/
def egV (x1 : Vec F S1x1x256x256 .i32) : Vec F S256x256 .f32 := k0_pay23 (k0_pay21 x1)
/-- The lane-distance table of the target boundary. -/
def dgV (x1 : Vec F S1x1x256x256 .i32) : Vec F S256x1x256 .f32 :=
  rowsA2 (k0_pay25 (F := F)) (k0_pay31 (k0_pay26 (F := F)) (rowsA1 (k0_pay25 (F := F)) (k0_pay27 (egV x1))))
/-- The distance table of the pred boundary. -/
def dpV (x0 : Vec F S1x1x256x256 .f32) : Vec F S256x1x256 .f32 :=
  rowsB2 (k0_pay25 (F := F)) (k0_pay32 (k0_pay26 (F := F)) (rowsB1 (k0_pay25 (F := F)) (k0_pay28 (k0_pay26 (F := F)) (epV x0))))
/-- The squared distances of the pred boundary's pixels to the target boundary. -/
def u1V (x0 : Vec F S1x1x256x256 .f32) (x1 : Vec F S1x1x256x256 .i32) : Vec F S256x256 .f32 :=
  k0_pay35 (epV x0) (Scalar.ofBits .f32 0x3F000000#32) (dgV x1)
/-- The squared distances of the target boundary's pixels to the pred boundary. -/
def u2V (x0 : Vec F S1x1x256x256 .f32) (x1 : Vec F S1x1x256x256 .i32) : Vec F S256x256 .f32 :=
  k0_pay36 (egV x1) (dpV x0)
/-- The lower rank of the first list. -/
def kl1 (x0 : Vec F S1x1x256x256 .f32) : FVec F S1x1 .f32 := k0_pay41 (Scalar.ofBits .f32 0x477FFF00#32) (k0_pay40 (epV x0))
/-- The lower rank of the second list. -/
def kl2 (x1 : Vec F S1x1x256x256 .i32) : FVec F S1x1 .f32 := k0_pay46 (egV x1)
/-- The brackets after the search. -/
def brV (x0 : Vec F S1x1x256x256 .f32) (x1 : Vec F S1x1x256x256 .i32) : IVec S1x1 32 × IVec S1x1 32 × IVec S1x1 32 × IVec S1x1 32 :=
  (stepS (kl1 x0) (kl2 x1) (u1V x0 x1) (u2V x0 x1))^[17] (s0S k0_pay48)
/-- The value at the lower rank of the first list, squared. -/
def lo1V (x0 : Vec F S1x1x256x256 .f32) (x1 : Vec F S1x1x256x256 .i32) : FVec F S1x1 .f32 :=
  k0_pay65 (kl1 x0) (brV x0 x1).1 (k0_pay58 (u1V x0 x1)) (k0_pay60 (u1V x0 x1)) (k0_pay62 (u1V x0 x1)) (k0_pay64 (u1V x0 x1))
/-- The value at the lower rank of the second list, squared. -/
def lo2V (x0 : Vec F S1x1x256x256 .f32) (x1 : Vec F S1x1x256x256 .i32) : FVec F S1x1 .f32 :=
  k0_pay66 (kl2 x1) (brV x0 x1).2.2.1 (k0_pay59 (u2V x0 x1)) (k0_pay61 (u2V x0 x1)) (k0_pay63 (u2V x0 x1)) (u2V x0 x1)
/-- The block's result. -/
def outV (x0 : Vec F S1x1x256x256 .f32) (x1 : Vec F S1x1x256x256 .i32) : Vec F S1x1x1 .f32 :=
  k0_pay71 (k0_pay39 (epV x0)) (k0_pay42 (k0_pay38 (epV x0))) (k0_pay45 (egV x1)) (k0_pay47 (egV x1)) (lo1V x0 x1) (lo2V x0 x1)
    (k0_pay67 (lo1V x0 x1) (u1V x0 x1)) (k0_pay68 (lo2V x0 x1) (u2V x0 x1)) (k0_pay69 (lo1V x0 x1) (u1V x0 x1) (u1V x0 x1))
    (k0_pay70 (lo2V x0 x1) (u2V x0 x1) (u2V x0 x1))

section Whole

variable (c : Dev nD) (E : Set ℕ) (i : grid0.Coords) (arg1 : Memref sig .tc .vmem S1x1x256x256 .f32) (harg1 : arg1.IsWhole) (arg2 : Memref sig .tc .vmem S1x1x256x256 .i32) (harg2 : arg2.IsWhole) (arg3 : Memref sig .tc .vmem S1x1x1 .f32) (harg3 : arg3.IsWhole) (arg4 : Memref sig .tc .vmem S256x256 .f32) (harg4 : arg4.IsWhole) (arg5 : Memref sig .tc .vmem S256x256 .f32) (harg5 : arg5.IsWhole) (arg6 : Memref sig .tc .vmem S256x1x256 .f32) (harg6 : arg6.IsWhole) (arg7 : Memref sig .tc .vmem S256x1x256 .f32) (harg7 : arg7.IsWhole) (arg8 : Memref sig .tc .vmem S256x1x256 .f32) (harg8 : arg8.IsWhole) (arg9 : Memref sig .tc .vmem S256x1x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S256x256 .f32) (harg12 : arg12.IsWhole) (arg13 : Memref sig .tc .vmem S256x256 .f32) (harg13 : arg13.IsWhole) (arg14 : Memref sig .tc .vmem S256x256 .f32) (harg14 : arg14.IsWhole)

/-- The parts in a row: the block's result is returned. -/
theorem part12_spec (x0 : Vec F S1x1x256x256 .f32) (x1 : Vec F S1x1x256x256 .i32) :
    iprop(owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))
      ⊢ wp (M := 𝕄) frame (wpE (defs₀ (F := F)) Variants.none c none) E (k0_part12 i arg1 harg1 arg2 harg2 arg3 harg3 arg4 harg4 arg5 harg5 arg6 harg6 arg7 harg7 arg8 harg8 arg9 harg9 arg10 harg10 arg11 harg11 arg12 harg12 arg13 harg13 arg14 harg14)
        (fun r => iprop(⌜r = outV x0 x1⌝ ∗ owns (c : Thread nD τ) arg1 fullShare x0 ∗ owns (c : Thread nD τ) arg2 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))) := by
  simp only [k0_part12_eq_skeleton]
  unfold k0_part12_skel
  iintro ⟨H1, H2, H4, H5, H6, H7, H8, H9, H10, H11, H12, H13, H14⟩
  simp only [wp_bind]
  iapply (wp_wand_r frame (wpE (defs₀ (F := F)) Variants.none c none) E)
  isplitl [H1 H2 H10]
  · iapply (part3_spec c E i arg1 harg1 arg2 harg2 arg3 harg3 arg4 harg4 arg5 harg5 arg6 harg6 arg7 harg7 arg8 harg8 arg9 harg9 arg10 harg10 arg11 harg11 arg12 harg12 arg13 harg13 arg14 harg14 x0 x1) $$ [H1 H2 H10]
    isplitl [H1]; · iexact H1
    isplitl [H2]; · iexact H2
    iexact H10
  iintro %r3 ⟨%h3, H1, H2, H10⟩
  subst h3
  iapply (wp_wand_r frame (wpE (defs₀ (F := F)) Variants.none c none) E)
  isplitl [H11 H12 H4]
  · iapply (part4_spec c E i arg1 harg1 arg2 harg2 arg3 harg3 arg4 harg4 arg5 harg5 arg6 harg6 arg7 harg7 arg8 harg8 arg9 harg9 arg10 harg10 arg11 harg11 arg12 harg12 arg13 harg13 arg14 harg14 (k0_pay21 x1)) $$ [H11 H12 H4]
    isplitl [H11]; · iexact H11
    isplitl [H12]; · iexact H12
    iexact H4
  iintro %r4 ⟨%h4, H11, H12, H4⟩
  subst h4
  iapply (wp_wand_r frame (wpE (defs₀ (F := F)) Variants.none c none) E)
  isplitl [H12 H4 H10 H5 H6 H7 H8 H9]
  · iapply (part5_spec c E i arg1 harg1 arg2 harg2 arg3 harg3 arg4 harg4 arg5 harg5 arg6 harg6 arg7 harg7 arg8 harg8 arg9 harg9 arg10 harg10 arg11 harg11 arg12 harg12 arg13 harg13 arg14 harg14 (k0_pay26 (F := F)) (k0_pay25 (F := F)) (k0_pay27 (egV x1)) (epV x0)) $$ [H12 H4 H10 H5 H6 H7 H8 H9]
    isplitl [H12]; · iexact H12
    isplitl [H4]; · iexact H4
    isplitl [H10]; · iexact H10
    isplitl [H5]; · iexact H5
    isplitl [H6]; · iexact H6
    isplitl [H7]; · iexact H7
    isplitl [H8]; · iexact H8
    iexact H9
  iintro %r5 ⟨%h5, H12, H10, H4, H5, H6, H7, H8, H9⟩
  subst h5
  iapply (wp_wand_r frame (wpE (defs₀ (F := F)) Variants.none c none) E)
  isplitl [H8 H9 H10 H11 H13 H14]
  · iapply (part6_spec c E i arg1 harg1 arg2 harg2 arg3 harg3 arg4 harg4 arg5 harg5 arg6 harg6 arg7 harg7 arg8 harg8 arg9 harg9 arg10 harg10 arg11 harg11 arg12 harg12 arg13 harg13 arg14 harg14 (epV x0) (Scalar.ofBits .f32 0x3F000000#32) (epV x0) (egV x1) (dgV x1) (dpV x0)) $$ [H8 H9 H10 H11 H13 H14]
    isplitl [H8]; · iexact H8
    isplitl [H9]; · iexact H9
    isplitl [H10]; · iexact H10
    isplitl [H11]; · iexact H11
    isplitl [H13]; · iexact H13
    iexact H14
  iintro %r6 ⟨%h6, H8, H9, H10, H11, H13, H14⟩
  subst h6
  iapply (wp_wand_r frame (wpE (defs₀ (F := F)) Variants.none c none) E)
  isplitl [H11]
  · iapply (part7_spec c E i arg1 harg1 arg2 harg2 arg3 harg3 arg4 harg4 arg5 harg5 arg6 harg6 arg7 harg7 arg8 harg8 arg9 harg9 arg10 harg10 arg11 harg11 arg12 harg12 arg13 harg13 arg14 harg14 (k0_pay38 (epV x0)) (Scalar.ofBits .f32 0x477FFF00#32) (k0_pay40 (epV x0)) (egV x1)) $$ [H11]
    iexact H11
  iintro %r7 ⟨%h7, H11⟩
  subst h7
  iapply (wp_wand_r frame (wpE (defs₀ (F := F)) Variants.none c none) E)
  isplitl [H13 H14]
  · iapply (part8_spec c E i arg1 harg1 arg2 harg2 arg3 harg3 arg4 harg4 arg5 harg5 arg6 harg6 arg7 harg7 arg8 harg8 arg9 harg9 arg10 harg10 arg11 harg11 arg12 harg12 arg13 harg13 arg14 harg14 (kl1 x0) (kl2 x1) k0_pay48 (u1V x0 x1) (u2V x0 x1)) $$ [H13 H14]
    isplitl [H13]; · iexact H13
    iexact H14
  iintro %r8 ⟨%h8, H13, H14⟩
  subst h8
  iapply (wp_wand_r frame (wpE (defs₀ (F := F)) Variants.none c none) E)
  isplitl [H13 H14]
  · iapply (part9_spec c E i arg1 harg1 arg2 harg2 arg3 harg3 arg4 harg4 arg5 harg5 arg6 harg6 arg7 harg7 arg8 harg8 arg9 harg9 arg10 harg10 arg11 harg11 arg12 harg12 arg13 harg13 arg14 harg14 (u1V x0 x1) (u2V x0 x1)) $$ [H13 H14]
    isplitl [H13]; · iexact H13
    iexact H14
  iintro %r9 ⟨%h9, H13, H14⟩
  subst h9
  iapply (wp_wand_r frame (wpE (defs₀ (F := F)) Variants.none c none) E)
  isplitl [H13 H14]
  · iapply (part10_spec c E i arg1 harg1 arg2 harg2 arg3 harg3 arg4 harg4 arg5 harg5 arg6 harg6 arg7 harg7 arg8 harg8 arg9 harg9 arg10 harg10 arg11 harg11 arg12 harg12 arg13 harg13 arg14 harg14 (kl1 x0) (kl2 x1) (brV x0 x1).1 (brV x0 x1).2.2.1 (k0_pay58 (u1V x0 x1)) (k0_pay59 (u2V x0 x1)) (k0_pay60 (u1V x0 x1))
      (k0_pay61 (u2V x0 x1)) (k0_pay62 (u1V x0 x1)) (k0_pay63 (u2V x0 x1)) (k0_pay64 (u1V x0 x1)) (u1V x0 x1) (u2V x0 x1)) $$ [H13 H14]
    isplitl [H13]; · iexact H13
    iexact H14
  iintro %r10 ⟨%h10, H13, H14⟩
  subst h10
  iapply (wp_wand_r frame (wpE (defs₀ (F := F)) Variants.none c none) E)
  isplitl [H13 H14]
  · iapply (part11_spec c E i arg1 harg1 arg2 harg2 arg3 harg3 arg4 harg4 arg5 harg5 arg6 harg6 arg7 harg7 arg8 harg8 arg9 harg9 arg10 harg10 arg11 harg11 arg12 harg12 arg13 harg13 arg14 harg14 (lo1V x0 x1) (lo2V x0 x1) (u1V x0 x1) (u1V x0 x1) (u2V x0 x1)) $$ [H13 H14]
    isplitl [H13]; · iexact H13
    iexact H14
  iintro %r11 ⟨%h11, H13, H14⟩
  subst h11
  sl_step
  isplitr
  · ipureintro; dsimp only; unfold outV lo1V lo2V; with_reducible rfl
  isplitl [H1]; · iexact H1
  isplitl [H2]; · iexact H2
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The kernel's body at one block: the block's result is stored through the output's staging memref. -/
theorem body_spec (x0 : Vec F S1x1x256x256 .f32) (x1 : Vec F S1x1x256x256 .i32) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))
      ⊢ wp (M := 𝕄) frame (wpE (defs₀ (F := F)) Variants.none c none) E (cc0_hd95_loss i arg1 harg1 arg2 harg2 arg3 harg3 arg4 harg4 arg5 harg5 arg6 harg6 arg7 harg7 arg8 harg8 arg9 harg9 arg10 harg10 arg11 harg11 arg12 harg12 arg13 harg13 arg14 harg14)
        (fun _ => iprop(owns (c : Thread nD τ) arg1 fullShare x0 ∗ owns (c : Thread nD τ) arg2 fullShare x1 ∗ owns (c : Thread nD τ) arg3 fullShare (outV x0 x1) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))) := by
  simp only [cc0_hd95_loss_eq_skeleton]
  unfold cc0_hd95_loss_skel
  iintro ⟨H1, H2, H3, H4, H5, H6, H7, H8, H9, H10, H11, H12, H13, H14⟩
  simp only [wp_bind]
  iapply (wp_wand_r frame (wpE (defs₀ (F := F)) Variants.none c none) E)
  isplitl [H1 H2 H4 H5 H6 H7 H8 H9 H10 H11 H12 H13 H14]
  · iapply (part12_spec c E i arg1 harg1 arg2 harg2 arg3 harg3 arg4 harg4 arg5 harg5 arg6 harg6 arg7 harg7 arg8 harg8 arg9 harg9 arg10 harg10 arg11 harg11 arg12 harg12 arg13 harg13 arg14 harg14 x0 x1) $$ [H1 H2 H4 H5 H6 H7 H8 H9 H10 H11 H12 H13 H14]
    isplitl [H1]; · iexact H1
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %r ⟨%h, H1, H2, H4, H5, H6, H7, H8, H9, H10, H11, H12, H13, H14⟩
  subst h
  simp only [← wp_bind]
  generalize outV x0 x1 = w
  unfold owns
  icases H3 with ⟨%d3, %f3, %hf3, H3⟩
  sl_exec
  sl_step
  isplitl [H1]; · iexact H1
  isplitl [H2]; · iexact H2
  isplitl [H3]
  · iexists _; isplitr; swap; · iexact H3
    ipureintro; sl_unfold_words
    rw [read_whole_store (S := S1x1x1) _ _ hz3]
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Whole

end Cert.KernelIdeal.Body
end
-- ==== Proof.KernelRun.lean ====
/-
  The kernel's run: the pipeline's proof data at the block values of `KernelBody`, the body obligation, the launch and
  the frame.
-/
module

public import proofs.«01_k».proof.Proof.KernelBody
public import proofs.«01_k».proof.Proof.Gen.KernelIdeal.Frame.Runs
public import Idealize.ShloMosaic.Lib.Claim

@[expose] public section

set_option maxRecDepth 16384

noncomputable section

namespace Cert.KernelIdeal.Run

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`: the value of the point's two input blocks. -/
def outsAt (c : Dev nD) (t : Fin cfg0.N) : Vec F S1x1x1 .f32 := outV (iblk m c 0 t) (iblk m c 1 t)

/-- The proof data of the one pipeline on core `c`: the arrays as the region finds them (`V`); after the body at
    point `t` each input's buffer at its block and the outputs' at `outsAt`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

/-- The body at any point: the run of `KernelBody` at the point's memrefs and blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl, PhiA0_eq]
  unfold outsAt
  iintro ⟨⟨⟨HS0, HS1, HS2, HS3, HS4, HS5, HS6, HS7, HS8, HS9, HS10⟩, Hg⟩, Ho, ⟨%d0, H0⟩, ⟨%d1, H1⟩, ⟨%d2, H2⟩⟩
  iapply (wp_wand_r frame (wpE (defs₀ (F := F)) Variants.none c none) Set.univ)
  isplitl [H0 H1 H2 HS0 HS1 HS2 HS3 HS4 HS5 HS6 HS7 HS8 HS9 HS10]
  · iapply (body_spec c Set.univ (grid0.coords t) _ _ _ _ _ _ _ _ _ _ _ _ _ _ _ _ _ _ _ _ _ _ _ _ _ _ _ _ (iblk m c 0 t) (iblk m c 1 t)) $$ [H0 H1 H2 HS0 HS1 HS2 HS3 HS4 HS5 HS6 HS7 HS8 HS9 HS10]
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    iexact HS10
  iintro %r ⟨H0, H1, H2, HS0, HS1, HS2, HS3, HS4, HS5, HS6, HS7, HS8, HS9, HS10⟩
  isplitl [HS0 HS1 HS2 HS3 HS4 HS5 HS6 HS7 HS8 HS9 HS10 Hg]
  · isplitl [HS0 HS1 HS2 HS3 HS4 HS5 HS6 HS7 HS8 HS9 HS10]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      iexact HS10
    iexact Hg
  isplitl [Ho]; · iexact Ho
  isplitl [H0]; · iexact H0
  isplitl [H1]; · iexact H1
  iexact H2

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Run

end
-- ==== Proof.Spec.lean ====
/-
  The mathematics of the loss, free of any program: boundaries of masks, exact squared distances in natural numbers,
  order statistics by counting, the bisection that finds one, and the interpolated percentile.
-/
module

public import Idealize.ShloMosaic.Lib.Pointwise

@[expose] public section

noncomputable section

namespace Hd

/-- A mask over the image. -/
abbrev Mask := Fin 256 → Fin 256 → Bool
/-- A pixel. -/
abbrev Px := Fin 256 × Fin 256

/-! ## The boundary -/

/-- The neighbour one row below, outside the image not set. -/
def below (M : Mask) (i j : Fin 256) : Bool := if h : i.val < 255 then M ⟨i.val + 1, by omega⟩ j else false
/-- The neighbour one row above. -/
def above (M : Mask) (i j : Fin 256) : Bool := if i.val < 1 then false else M ⟨i.val - 1, by omega⟩ j
/-- The neighbour one column to the right. -/
def right (M : Mask) (i j : Fin 256) : Bool := if h : j.val < 255 then M i ⟨j.val + 1, by omega⟩ else false
/-- The neighbour one column to the left. -/
def left (M : Mask) (i j : Fin 256) : Bool := if j.val < 1 then false else M i ⟨j.val - 1, by omega⟩
/-- The boundary of a mask: its pixels with a neighbour not set. -/
def bd (M : Mask) : Mask := fun i j => M i j && !(M i j && below M i j && above M i j && right M i j && left M i j)

/-! ## Distances -/

/-- The square of the distance of two coordinates. -/
def dsq (a b : Fin 256) : ℕ := ((a.val : ℤ) - (b.val : ℤ)).natAbs ^ 2

/-- As a real it is the square of the difference. -/
theorem dsq_cast (a b : Fin 256) : (dsq a b : ℝ) = ((a.val : ℝ) - (b.val : ℝ)) ^ 2 := by
  unfold dsq
  rw [Nat.cast_pow, Nat.cast_natAbs]
  push_cast
  exact sq_abs _

/-- It is symmetric. -/
theorem dsq_comm (a b : Fin 256) : dsq a b = dsq b a := by
  unfold dsq
  congr 1
  omega

/-- It is zero on the diagonal. -/
theorem dsq_self (a : Fin 256) : dsq a a = 0 := by simp [dsq]

/-- It is at most the square of 255. -/
theorem dsq_le (a b : Fin 256) : dsq a b ≤ 65025 := by
  unfold dsq
  have h : ((a.val : ℤ) - (b.val : ℤ)).natAbs ≤ 255 := by omega
  calc _ ≤ 255 ^ 2 := Nat.pow_le_pow_left h 2
    _ = 65025 := by norm_num

/-- The squared distance within a row to the nearest pixel of `X`, or 10^12. -/
def N1 (X : Mask) (i j : Fin 256) : ℕ :=
  Finset.univ.inf' Finset.univ_nonempty fun j' : Fin 256 => (if X i j' then 0 else 1000000000000) + dsq j j'
/-- The squared distance to the nearest pixel of `X`, or 10^12. -/
def N2 (X : Mask) (i j : Fin 256) : ℕ :=
  Finset.univ.inf' Finset.univ_nonempty fun i' : Fin 256 => N1 X i' j + dsq i i'

/-- `N1` is at most each of its terms. -/
theorem N1_le (X : Mask) (i j j' : Fin 256) : N1 X i j ≤ (if X i j' then 0 else 1000000000000) + dsq j j' :=
  Finset.inf'_le (f := fun j' : Fin 256 => (if X i j' then 0 else 1000000000000) + dsq j j') (Finset.mem_univ j')
/-- `N2` is at most each of its terms. -/
theorem N2_le (X : Mask) (i j i' : Fin 256) : N2 X i j ≤ N1 X i' j + dsq i i' :=
  Finset.inf'_le (f := fun i' : Fin 256 => N1 X i' j + dsq i i') (Finset.mem_univ i')

/-- A mask with a pixel has all its squared distances at most 130050; an empty one has them all at 10^12. -/
theorem N2_cases (X : Mask) : (∀ i j, N2 X i j ≤ 130050) ∨ (∀ i j, N2 X i j = 1000000000000) := by
  by_cases h : ∃ a b, X a b = true
  · obtain ⟨a, b, hab⟩ := h
    left
    intro i j
    have h1 := N2_le X i j a
    have h2 := N1_le X a j b
    rw [if_pos hab] at h2
    have h3 := dsq_le i a
    have h4 := dsq_le j b
    omega
  · right
    have hX : ∀ a b, ¬ X a b = true := fun a b hab => h ⟨a, b, hab⟩
    have h1 : ∀ i j, N1 X i j = 1000000000000 := fun i j => by
      apply le_antisymm
      · have := N1_le X i j j
        rw [if_neg (hX i j), dsq_self] at this
        exact this
      · refine Finset.le_inf' _ _ fun b _ => ?_
        rw [if_neg (hX i b)]
        omega
    intro i j
    apply le_antisymm
    · have := N2_le X i j i
      rw [h1, dsq_self] at this
      exact this
    · refine Finset.le_inf' _ _ fun b _ => ?_
      rw [h1]
      omega

/-! ## Order statistics by counting -/

/-- How many pixels have a value at most `w`. -/
def cnt (U : Px → ℕ) (w : ℕ) : ℕ := (Finset.univ.filter fun p => U p ≤ w).card
/-- How many have a value below `w`. -/
def cntLt (U : Px → ℕ) (w : ℕ) : ℕ := (Finset.univ.filter fun p => U p < w).card
/-- `w` is the value at place `k` of the sorted values. -/
def IsRank (U : Px → ℕ) (k w : ℕ) : Prop := k + 1 ≤ cnt U w ∧ cntLt U w ≤ k
/-- The value at place `k`: the least with enough values up to it. -/
def rk (U : Px → ℕ) (k : ℕ) : ℕ := sInf {w | k + 1 ≤ cnt U w}

/-- There are 65536 pixels. -/
theorem card_px : Fintype.card Px = 65536 := by simp

/-- Counting is monotone. -/
theorem cnt_mono (U : Px → ℕ) {v w : ℕ} (h : v ≤ w) : cnt U v ≤ cnt U w :=
  Finset.card_le_card fun p hp => by
    simp only [Finset.mem_filter, Finset.mem_univ, true_and] at hp ⊢
    exact le_trans hp h
/-- The values up to `v < w` are below `w`. -/
theorem cnt_le_cntLt (U : Px → ℕ) {v w : ℕ} (h : v < w) : cnt U v ≤ cntLt U w :=
  Finset.card_le_card fun p hp => by
    simp only [Finset.mem_filter, Finset.mem_univ, true_and] at hp ⊢
    exact lt_of_le_of_lt hp h
/-- No more values lie up to `v` than there are pixels. -/
theorem cnt_le (U : Px → ℕ) (w : ℕ) : cnt U w ≤ 65536 := by
  rw [← card_px]
  exact Finset.card_le_univ _

/-- The value at a place is unique. -/
theorem IsRank.eq_rk {U : Px → ℕ} {k w : ℕ} (h : IsRank U k w) : w = rk U k := by
  apply le_antisymm
  · refine le_csInf ⟨w, h.1⟩ fun v hv => ?_
    by_contra hlt
    have h1 := cnt_le_cntLt U (not_le.mp hlt)
    have h2 : k + 1 ≤ cnt U v := hv
    have h3 := h.2
    omega
  · exact Nat.sInf_le h.1

/-- Every place has a value. -/
theorem isRank_rk (U : Px → ℕ) {k : ℕ} (hk : k < 65536) : IsRank U k (rk U k) := by
  have hne : {w | k + 1 ≤ cnt U w}.Nonempty := by
    refine ⟨Finset.univ.sup U, ?_⟩
    show k + 1 ≤ cnt U _
    have : cnt U (Finset.univ.sup U) = 65536 := by
      unfold cnt
      rw [Finset.filter_true_of_mem fun p hp => Finset.le_sup hp, Finset.card_univ, card_px]
    omega
  refine ⟨Nat.sInf_mem hne, ?_⟩
  by_contra hlt
  have hlt := not_le.mp hlt
  rcases Nat.eq_zero_or_pos (rk U k) with h0 | h0
  · rw [h0] at hlt
    simp [cntLt] at hlt
  · have h1 : cntLt U (rk U k) ≤ cnt U (rk U k - 1) := Finset.card_le_card fun p hp => by
      simp only [Finset.mem_filter, Finset.mem_univ, true_and] at hp ⊢
      omega
    have h2 : rk U k ≤ rk U k - 1 := Nat.sInf_le (show k + 1 ≤ cnt U (rk U k - 1) by omega)
    omega

/-- In a sorted rearrangement of the images of the values under a monotone map, the entry at a place is the image of the
    value at that place. -/
theorem sorted_at {φ : ℕ → ℝ} (hφ : Monotone φ) (U : Px → ℕ) (s : Fin 65536 → ℝ) (hmono : ∀ i j, i < j → s i ≤ s j)
    (σ : Fin 65536 → Px) (hσ : Function.Bijective σ) (hs : ∀ i, s i = φ (U (σ i))) (k : Fin 65536) {w : ℕ}
    (hw : IsRank U k.val w) : s k = φ w := by
  have hm : ∀ i j, i ≤ j → s i ≤ s j := fun i j hij => by
    rcases eq_or_lt_of_le hij with rfl | h
    · exact le_rfl
    · exact hmono i j h
  have hcard : ∀ (p : Px → Prop) [DecidablePred p], (Finset.univ.filter fun i => p (σ i)).card = (Finset.univ.filter p).card := fun p _ =>
    Finset.card_bij (fun i _ => σ i) (fun i hi => by simpa using hi) (fun _ _ _ _ h => hσ.1 h) (fun b hb => by
      obtain ⟨i, rfl⟩ := hσ.2 b
      exact ⟨i, by simpa using hb, rfl⟩)
  apply le_antisymm
  · by_contra hlt
    have hlt := not_le.mp hlt
    have hsub : (Finset.univ.filter fun i => U (σ i) ≤ w) ⊆ Finset.univ.filter fun i : Fin 65536 => i < k := fun i hi => by
      simp only [Finset.mem_filter, Finset.mem_univ, true_and] at hi ⊢
      by_contra hik
      have := hm k i (not_lt.mp hik)
      rw [hs i] at this
      have := hφ hi
      linarith
    have := Finset.card_le_card hsub
    rw [hcard (fun p => U p ≤ w), Finset.filter_gt_eq_Iio, Fin.card_Iio] at this
    have h1 := hw.1
    unfold cnt at h1
    omega
  · by_contra hlt
    have hlt := not_le.mp hlt
    have hsub : (Finset.univ.filter fun i : Fin 65536 => i ≤ k) ⊆ Finset.univ.filter fun i => U (σ i) < w := fun i hi => by
      simp only [Finset.mem_filter, Finset.mem_univ, true_and] at hi ⊢
      by_contra hik
      have h1 := hφ (not_lt.mp hik)
      have h2 := hm i k hi
      rw [hs i] at h2
      linarith
    have := Finset.card_le_card hsub
    rw [hcard (fun p => U p < w), Finset.filter_ge_eq_Iic, Fin.card_Iic] at this
    have h1 := hw.2
    unfold cntLt at h1
    omega

/-! ## The values the percentile is taken of -/

/-- The value of a pixel outside the mask. -/
abbrev fillN : ℕ := 1999999991808
/-- The squared distances on the mask `E`, a larger number elsewhere. -/
def U (E : Mask) (D : Fin 256 → Fin 256 → ℕ) : Px → ℕ := fun p => if E p.1 p.2 then D p.1 p.2 else fillN
/-- A value's distance: the root, and 10^12 outside the mask. -/
def φ (u : ℕ) : ℝ := if fillN ≤ u then 1000000000000 else Real.sqrt u

/-- Roots below the fill are below 10^12. -/
theorem sqrt_le_big {u : ℕ} (h : u < fillN) : Real.sqrt u ≤ 1000000000000 := by
  rw [Real.sqrt_le_left (by norm_num)]
  have : (u : ℝ) ≤ 1999999991808 := by exact_mod_cast h.le
  nlinarith

/-- The distance is monotone in the value. -/
theorem φ_mono : Monotone φ := fun a b hab => by
  unfold φ
  split_ifs with h1 h2 h2
  · exact le_rfl
  · omega
  · exact sqrt_le_big (not_le.mp h1)
  · exact Real.sqrt_le_sqrt (by exact_mod_cast hab)

/-- What the values can be. -/
theorem U_cases (E X : Mask) (p : Px) : U E (N2 X) p ≤ 130050 ∨ U E (N2 X) p = 1000000000000 ∨ U E (N2 X) p = fillN := by
  unfold U
  split_ifs
  · rcases N2_cases X with h | h
    · exact .inl (h _ _)
    · exact .inr (.inl (h _ _))
  · exact .inr (.inr rfl)

/-- The choice among the found integer and the large values. -/
def pick (U : Px → ℕ) (k lo : ℕ) : ℕ :=
  if k + 1 ≤ cnt U 130050 then lo
  else if k + 1 ≤ cnt U 1000000000000 then 1000000000000
  else if k + 1 ≤ cnt U 1000000061440 then 1000000061440
  else if k + 1 ≤ cnt U 1000000126976 then 1000000126976
  else fillN

/-- The choice is the value at the place. -/
theorem pick_isRank (U : Px → ℕ) (hU : ∀ p, U p ≤ 130050 ∨ U p = 1000000000000 ∨ U p = fillN) {k lo : ℕ} (hk : k < 65536)
    (hlo : k + 1 ≤ cnt U 130050 → IsRank U k lo) : IsRank U k (pick U k lo) := by
  have e1 : cntLt U 1000000000000 = cnt U 130050 := by
    unfold cnt cntLt
    congr 1
    ext p
    simp only [Finset.mem_filter, Finset.mem_univ, true_and]
    rcases hU p with h | h | h <;> (try unfold fillN at h) <;> omega
  have e2 : ∀ w, 1000000000000 ≤ w → w < fillN → cnt U w = cnt U 1000000000000 := fun w h1 h2 => by
    unfold cnt
    congr 1
    ext p
    simp only [Finset.mem_filter, Finset.mem_univ, true_and]
    unfold fillN at h2
    rcases hU p with h | h | h <;> (try unfold fillN at h) <;> omega
  have e3 : cntLt U fillN = cnt U 1000000000000 := by
    unfold cnt cntLt
    congr 1
    ext p
    simp only [Finset.mem_filter, Finset.mem_univ, true_and]
    rcases hU p with h | h | h <;> unfold fillN at * <;> omega
  have e4 : cnt U fillN = 65536 := by
    unfold cnt
    rw [Finset.filter_true_of_mem, Finset.card_univ, card_px]
    intro p _
    rcases hU p with h | h | h <;> unfold fillN at * <;> omega
  unfold pick
  rw [e2 1000000061440 (by norm_num) (by norm_num), e2 1000000126976 (by norm_num) (by norm_num)]
  split_ifs with h1 h2
  · exact hlo h1
  · exact ⟨h2, by omega⟩
  · exact ⟨by omega, by omega⟩

/-- The least value above `w`, or a still larger number. -/
def next (U : Px → ℕ) (w : ℕ) : ℕ := Finset.univ.inf' Finset.univ_nonempty fun p : Px => if w < U p then U p else 3999999983616

/-- From the value at a place, the value at the next. -/
theorem next_isRank (U : Px → ℕ) (hU : ∀ p, U p ≤ fillN) {k w : ℕ} (hk : k + 1 < 65536) (hw : IsRank U k w) :
    IsRank U (k + 1) (if k + 2 ≤ cnt U w then w else next U w) := by
  split_ifs with h
  · exact ⟨h, hw.2.trans (Nat.le_succ k)⟩
  · have hc : cnt U w = k + 1 := by have := hw.1; omega
    have hex : ∃ p, w < U p := by
      by_contra hn
      have : cnt U w = 65536 := by
        unfold cnt
        rw [Finset.filter_true_of_mem, Finset.card_univ, card_px]
        intro p _
        by_contra hp
        exact hn ⟨p, not_le.mp hp⟩
      omega
    obtain ⟨q, hq⟩ := hex
    obtain ⟨p, -, hp⟩ := Finset.exists_mem_eq_inf' Finset.univ_nonempty fun p : Px => if w < U p then U p else 3999999983616
    have hle : ∀ r, w < U r → next U w ≤ U r := fun r hr => by
      have := Finset.inf'_le (fun p : Px => if w < U p then U p else 3999999983616) (Finset.mem_univ r)
      simp only [if_pos hr] at this
      exact this
    have hpn : next U w = if w < U p then U p else 3999999983616 := hp
    have hwp : w < U p := by
      by_contra hn
      rw [if_neg hn] at hpn
      have h1 := hle q hq
      have h2 := hU q
      unfold fillN at h2
      omega
    rw [if_pos hwp] at hpn
    constructor
    · have hsub : insert p (Finset.univ.filter fun r => U r ≤ w) ⊆ Finset.univ.filter fun r => U r ≤ next U w := fun r hr => by
        simp only [Finset.mem_insert, Finset.mem_filter, Finset.mem_univ, true_and] at hr ⊢
        rcases hr with rfl | hr
        · exact hpn.ge
        · omega
      have := Finset.card_le_card hsub
      rw [Finset.card_insert_of_notMem (by simp [hwp])] at this
      unfold cnt at hc ⊢
      omega
    · have hsub : (Finset.univ.filter fun r => U r < next U w) ⊆ Finset.univ.filter fun r => U r ≤ w := fun r hr => by
        simp only [Finset.mem_filter, Finset.mem_univ, true_and] at hr ⊢
        by_contra hn
        have := hle r (not_le.mp hn)
        omega
      have := Finset.card_le_card hsub
      unfold cnt at hc
      unfold cntLt
      omega

/-! ## The bisection -/

/-- One step of the bisection for the least integer with `P`. -/
def bis (P : BitVec 32 → Prop) [DecidablePred P] (s : BitVec 32 × BitVec 32) : BitVec 32 × BitVec 32 :=
  let mid := s.1 + (s.2 - s.1) >>> 1
  if P mid then (s.1, mid) else (mid + 1#32, s.2)

/-- The bracket after `n` steps. -/
theorem bis_inv (P : BitVec 32 → Prop) [DecidablePred P] (Q : ℕ → Prop) (hPQ : ∀ b, b.toNat ≤ 130050 → (P b ↔ Q b.toNat))
    (hmono : ∀ a b, a ≤ b → Q a → Q b) (hQ : Q 130050) (n : ℕ) (hn : n ≤ 17) :
    let s := (bis P)^[n] (0#32, 130050#32)
    s.1.toNat ≤ s.2.toNat ∧ s.2.toNat ≤ 130050 ∧ s.2.toNat - s.1.toNat < 2 ^ (17 - n) ∧ Q s.2.toNat ∧ ∀ x, x < s.1.toNat → ¬ Q x := by
  induction n with
  | zero => exact ⟨by simp, by simp, by simp, hQ, fun x hx => absurd hx (by simp)⟩
  | succ n ih =>
    obtain ⟨h1, h2, h3, h4, h5⟩ := ih (by omega)
    simp only [Function.iterate_succ_apply']
    generalize (bis P)^[n] (0#32, 130050#32) = s at *
    obtain ⟨lo, hi⟩ := s
    dsimp only at *
    have hpow : 2 ^ (17 - n) = 2 * 2 ^ (17 - (n + 1)) := by
      rw [← pow_succ']
      congr 1
      omega
    have hsub : (hi - lo).toNat = hi.toNat - lo.toNat := BitVec.toNat_sub_of_le (BitVec.le_def.mpr h1)
    have hmid : (lo + (hi - lo) >>> 1).toNat = lo.toNat + (hi.toNat - lo.toNat) / 2 := by
      rw [BitVec.toNat_add, BitVec.toNat_ushiftRight, hsub, Nat.shiftRight_eq_div_pow]
      omega
    unfold bis
    dsimp only
    split_ifs with hp
    · have hq := (hPQ _ (by omega)).mp hp
      rw [hmid] at hq
      dsimp only
      rw [hmid]
      exact ⟨by omega, by omega, by omega, hq, h5⟩
    · have hq : ¬ Q _ := fun h => hp ((hPQ _ (by omega)).mpr h)
      rw [hmid] at hq
      have hlt : lo.toNat < hi.toNat := by
        by_contra hge
        have : lo.toNat + (hi.toNat - lo.toNat) / 2 = hi.toNat := by omega
        rw [this] at hq
        exact hq h4
      have hm1 : (lo + (hi - lo) >>> 1 + 1#32).toNat = lo.toNat + (hi.toNat - lo.toNat) / 2 + 1 := by
        rw [BitVec.toNat_add, hmid]
        simp only [BitVec.toNat_ofNat]
        omega
      dsimp only
      rw [hm1]
      refine ⟨by omega, by omega, by omega, h4, fun x hx hqx => ?_⟩
      exact hq (hmono x _ (by omega) hqx)

/-- What seventeen steps find is the value at the place, when it is an integer up to 130050. -/
theorem bis_isRank (U : Px → ℕ) (P : BitVec 32 → Prop) [DecidablePred P] {k : ℕ} (hP : ∀ b, b.toNat ≤ 130050 → (P b ↔ k + 1 ≤ cnt U b.toNat))
    (h : k + 1 ≤ cnt U 130050) :
    IsRank U k ((bis P)^[17] (0#32, 130050#32)).1.toNat ∧ ((bis P)^[17] (0#32, 130050#32)).1.toNat ≤ 130050 := by
  obtain ⟨h1, h2, h3, h4, h5⟩ := bis_inv P (fun w => k + 1 ≤ cnt U w) hP (fun a b hab ha => le_trans ha (cnt_mono U hab)) h 17 le_rfl
  generalize (bis P)^[17] (0#32, 130050#32) = s at *
  have he : s.2.toNat = s.1.toNat := by
    simp only [Nat.sub_self, pow_zero] at h3
    omega
  refine ⟨⟨he ▸ h4, ?_⟩, by omega⟩
  by_contra hlt
  have hlt := not_le.mp hlt
  rcases Nat.eq_zero_or_pos s.1.toNat with h0 | h0
  · rw [h0] at hlt
    simp [cntLt] at hlt
  · have h6 : cntLt U s.1.toNat ≤ cnt U (s.1.toNat - 1) := Finset.card_le_card fun p hp => by
      simp only [Finset.mem_filter, Finset.mem_univ, true_and] at hp ⊢
      omega
    exact h5 (s.1.toNat - 1) (by omega) (by omega)

/-! ## The percentile -/

/-- The percentile's weight, the float next to 0.95. -/
def wR : ℝ := 15938355 / 16777216
/-- The position of the percentile among `n` values. -/
def posR (n : ℕ) : ℝ := wR * ((n - 1 : ℕ) : ℝ)
/-- Its integer part. -/
def place (n : ℕ) : ℕ := ⌊posR n⌋₊
/-- Its fraction. -/
def frac (n : ℕ) : ℝ := posR n - place n

/-- The position is not negative. -/
theorem posR_nonneg (n : ℕ) : 0 ≤ posR n := mul_nonneg (by unfold wR; norm_num) (Nat.cast_nonneg _)

/-- The integer part as an integer. -/
theorem floor_posR (n : ℕ) : ⌊posR n⌋ = (place n : ℤ) := (Int.natCast_floor_eq_floor (posR_nonneg n)).symm

/-- The place and the next one lie among 65536 values. -/
theorem place_lt {n : ℕ} (hn : n ≤ 65536) : place n + 1 < 65536 := by
  have h : posR n < 65535 := by
    unfold posR wR
    have : ((n - 1 : ℕ) : ℝ) ≤ 65535 := by exact_mod_cast (by omega : n - 1 ≤ 65535)
    nlinarith
  have : place n < 65535 := by
    unfold place
    rw [Nat.floor_lt (posR_nonneg n)]
    exact_mod_cast h
  omega

/-- How many pixels a mask has. -/
def card (E : Mask) : ℕ := (Finset.univ.filter fun p : Px => E p.1 p.2 = true).card

/-- It is at most the number of pixels. -/
theorem card_le (E : Mask) : card E ≤ 65536 := by
  rw [← card_px]
  exact Finset.card_le_univ _

/-- The interpolated percentile of the distances `√D` over the mask `E`. -/
def pct (E : Mask) (D : Fin 256 → Fin 256 → ℕ) : ℝ :=
  φ (rk (U E D) (place (card E))) * (1 - frac (card E)) + φ (rk (U E D) (place (card E) + 1)) * frac (card E)

/-- The loss of one image: the larger of the two directed percentiles between the boundaries. -/
def img (P G : Mask) : ℝ := max (pct (bd P) (N2 (bd G))) (pct (bd G) (N2 (bd P)))

/-! ## Minima over extended reals -/

/-- The least of finitely many reals, from the top. -/
theorem fold_min_real {ι : Type*} [Fintype ι] (g : ι → ℝ) (i : ι) (hi : ∀ k, g i ≤ g k) :
    (Finset.univ : Finset ι).fold min (⊤ : EReal) (fun k => ((g k : ℝ) : EReal)) = ((g i : ℝ) : EReal) := by
  apply le_antisymm
  · rw [Finset.fold_min_le]
    exact .inr ⟨i, Finset.mem_univ i, le_rfl⟩
  · rw [Finset.le_fold_min]
    exact ⟨le_top, fun k _ => EReal.coe_le_coe_iff.mpr (hi k)⟩

/-- The least of finitely many naturals less a constant, the constant added back. -/
theorem fold_min_add {ι : Type*} [Fintype ι] [Nonempty ι] (f : ι → ℕ) (g : ι → ℝ) (c : ℝ) (h : ∀ k, g k + c = (f k : ℝ)) :
    (Finset.univ : Finset ι).fold min (⊤ : EReal) (fun k => ((g k : ℝ) : EReal)) + ((c : ℝ) : EReal)
      = (((Finset.univ.inf' Finset.univ_nonempty f : ℕ) : ℝ) : EReal) := by
  obtain ⟨i, -, hi⟩ := Finset.exists_mem_eq_inf' Finset.univ_nonempty f
  rw [fold_min_real g i fun k => by
    have h1 : f i ≤ f k := by
      rw [← hi]
      exact Finset.inf'_le f (Finset.mem_univ k)
    have h2 : (f i : ℝ) ≤ f k := by exact_mod_cast h1
    have h3 := h i
    have h4 := h k
    linarith, hi, ← EReal.coe_add, h]

/-- The least of finitely many naturals. -/
theorem fold_min_nat {ι : Type*} [Fintype ι] [Nonempty ι] (f : ι → ℕ) :
    (Finset.univ : Finset ι).fold min (⊤ : EReal) (fun k => (((f k : ℕ) : ℝ) : EReal))
      = (((Finset.univ.inf' Finset.univ_nonempty f : ℕ) : ℝ) : EReal) := by
  have := fold_min_add f (fun k => ((f k : ℕ) : ℝ)) 0 fun k => by simp
  rwa [EReal.coe_zero, add_zero] at this

/-! ## The scan of a row -/

/-- The distance scan of a row: zero on a set pixel, else one more than before, from 10^6. -/
def scan (x : ℕ → Bool) : ℕ → ℕ
  | 0 => 1000000
  | n + 1 => if x n then 0 else scan x n + 1

/-- The scan is at most the distance back to a set pixel. -/
theorem scan_le (x : ℕ → Bool) (t j : ℕ) (hj : j ≤ t) (hx : x j = true) : scan x (t + 1) ≤ t - j := by
  induction t with
  | zero =>
    obtain rfl : j = 0 := by omega
    simp [scan, hx]
  | succ t ih =>
    rw [scan]
    split_ifs with h
    · omega
    · have hne : j ≠ t + 1 := fun h' => h (h' ▸ hx)
      have := ih (by omega)
      omega

/-- It is the distance back to a set pixel, or at least 10^6. -/
theorem scan_cases (x : ℕ → Bool) (t : ℕ) : 1000000 ≤ scan x t ∨ ∃ j, j < t ∧ x j = true ∧ scan x t = t - 1 - j := by
  induction t with
  | zero => exact .inl le_rfl
  | succ t ih =>
    rw [scan]
    split_ifs with h
    · exact .inr ⟨t, by omega, h, by omega⟩
    · rcases ih with h1 | ⟨j, h1, h2, h3⟩
      · exact .inl (by omega)
      · exact .inr ⟨j, by omega, h2, by omega⟩

/-- The smaller of the scans from both ends, capped at 10^6 and squared, is the squared distance within the row. -/
theorem scan_sq (X : Mask) (i j : Fin 256) (f b : ℕ → Bool) (hf : ∀ t : Fin 256, f t.val = X i t)
    (hb : ∀ t : Fin 256, b t.val = X i ⟨255 - t.val, by omega⟩) :
    (min (min (scan f (j.val + 1)) (scan b (256 - j.val))) 1000000) ^ 2 = N1 X i j := by
  apply le_antisymm
  · refine Finset.le_inf' _ _ fun j' _ => ?_
    by_cases hX : X i j' = true
    · rw [if_pos hX, zero_add]
      unfold dsq
      refine Nat.pow_le_pow_left ?_ 2
      rcases le_total j'.val j.val with h | h
      · have := scan_le f j.val j'.val h (by rw [hf]; exact hX)
        omega
      · have hb' : b (255 - j'.val) = true := by
          have := hb ⟨255 - j'.val, by omega⟩
          simp only at this
          rw [this, ← hX]
          congr 1
          exact Fin.ext (by simp only; omega)
        have := scan_le b (255 - j.val) (255 - j'.val) (by omega) hb'
        rw [show 255 - j.val + 1 = 256 - j.val by omega] at this
        omega
    · rw [if_neg hX]
      have : (min (min (scan f (j.val + 1)) (scan b (256 - j.val))) 1000000) ^ 2 ≤ 1000000 ^ 2 := Nat.pow_le_pow_left (min_le_right _ _) 2
      norm_num at this ⊢
      omega
  · have key : ∀ v, (1000000 ≤ v ∨ ∃ j', X i j' = true ∧ v = ((j.val : ℤ) - (j'.val : ℤ)).natAbs) → N1 X i j ≤ (min v 1000000) ^ 2 := fun v hv => by
      rcases hv with hv | ⟨j', hX, rfl⟩
      · rw [min_eq_right hv]
        have := N1_le X i j j
        rw [dsq_self] at this
        split_ifs at this <;> omega
      · have := N1_le X i j j'
        rw [if_pos hX, zero_add] at this
        rw [min_eq_left (by omega)]
        exact this
    have h1 : N1 X i j ≤ (min (scan f (j.val + 1)) 1000000) ^ 2 := key _ (by
      rcases scan_cases f (j.val + 1) with h | ⟨t, h1, h2, h3⟩
      · exact .inl h
      · refine .inr ⟨⟨t, by omega⟩, ?_, by simp only; omega⟩
        rw [← hf]
        exact h2)
    have h2 : N1 X i j ≤ (min (scan b (256 - j.val)) 1000000) ^ 2 := key _ (by
      rcases scan_cases b (256 - j.val) with h | ⟨t, h1, h2, h3⟩
      · exact .inl h
      · refine .inr ⟨⟨255 - t, by omega⟩, ?_, by simp only; omega⟩
        rw [← h2, ← hb ⟨t, by omega⟩])
    rcases le_total (scan f (j.val + 1)) (scan b (256 - j.val)) with h | h
    · rw [min_eq_left h]; exact h1
    · rw [min_eq_right h]; exact h2

end Hd

end
-- ==== Proof.Consts.lean ====
/-
  The values of the printed constants over the extended reals, and a few readings of integers as reals.
-/
module

public import Idealize.ShloMosaic.Lib.Pointwise
public import Idealize.ShloMosaic.PureOps.IdealRules

@[expose] public section

noncomputable section

namespace Hd

open Idealize.ShloMosaic

/-- One half. -/
theorem c_half : Ideal.ofBits .f32 0x3F000000#32 = ((1 / 2 : ℝ) : EReal) := by
  simp [Ideal.ofBits, Ideal.ieee, -EReal.coe_mul]; norm_num
/-- The percentile fraction as the program's float holds it. -/
theorem c_w : Ideal.ofBits .f32 0x3F733333#32 = ((15938355 / 16777216 : ℝ) : EReal) := by
  simp [Ideal.ofBits, Ideal.ieee, -EReal.coe_mul]; norm_num
/-- The last index of an image. -/
theorem c_last : Ideal.ofBits .f32 0x477FFF00#32 = ((65535 : ℝ) : EReal) := by
  simp [Ideal.ofBits, Ideal.ieee, -EReal.coe_mul]; norm_num
/-- The largest squared distance within an image. -/
theorem c_far : Ideal.ofBits .f32 0x47FE0100#32 = ((130050 : ℝ) : EReal) := by
  simp [Ideal.ofBits, Ideal.ieee, -EReal.coe_mul]; norm_num
/-- The float next above the float nearest ten to the twelfth. -/
theorem c_l2 : Ideal.ofBits .f32 0x5368D4A6#32 = ((1000000061440 : ℝ) : EReal) := by
  simp [Ideal.ofBits, Ideal.ieee, -EReal.coe_mul]; norm_num
/-- The float above that one. -/
theorem c_l3 : Ideal.ofBits .f32 0x5368D4A7#32 = ((1000000126976 : ℝ) : EReal) := by
  simp [Ideal.ofBits, Ideal.ieee, -EReal.coe_mul]; norm_num
/-- The value off the mask. -/
theorem c_fill : Ideal.ofBits .f32 0x53E8D4A5#32 = ((1999999991808 : ℝ) : EReal) := by
  simp [Ideal.ofBits, Ideal.ieee, -EReal.coe_mul]; norm_num
/-- The value beyond everything. -/
theorem c_out : Ideal.ofBits .f32 0x5468D4A5#32 = ((3999999983616 : ℝ) : EReal) := by
  simp [Ideal.ofBits, Ideal.ieee, -EReal.coe_mul]; norm_num
/-- A million. -/
theorem c_million : Ideal.ofBits .f32 0x49742400#32 = ((1000000 : ℝ) : EReal) := by
  simp [Ideal.ofBits, Ideal.ieee, -EReal.coe_mul]; norm_num
/-- Four. -/
theorem c_four : Ideal.ofBits .f32 0x40800000#32 = ((4 : ℝ) : EReal) := by
  simp [Ideal.ofBits, Ideal.ieee, -EReal.coe_mul]; norm_num
/-- Plus infinity. -/
theorem c_top : Ideal.ofBits .f32 0x7F800000#32 = (⊤ : EReal) := by
  simp [Ideal.ofBits, Ideal.ieee]
/-- One. -/
theorem c_one : Ideal.ofBits .f32 0x3F800000#32 = (1 : EReal) := Ideal.ofBits_one_f32
/-- Zero. -/
theorem c_zero : Ideal.ofBits .f32 0x00000000#32 = (0 : EReal) := Ideal.ofBits_zero_f32

/-- A small number, written in 32 bits and read signed, is itself. -/
theorem toInt_nat (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by omega), e]

/-- A 32-bit number below half the range, read signed, is what it is unsigned. -/
theorem toInt_small (b : BitVec 32) (h : b.toNat < 2 ^ 31) : b.toInt = (b.toNat : ℤ) :=
  BitVec.toInt_eq_toNat_of_lt (by omega)

/-- A small number converted to a float is that number. -/
theorem sitofp_nat (n : ℕ) (h : n < 2 ^ 31) : FloatOps.sitofp (F := Ideal) .f32 (BitVec.ofNat 32 n) = (((n : ℕ) : ℝ) : EReal) := by
  show (((BitVec.ofNat 32 n).toInt : ℝ) : EReal) = _
  rw [toInt_nat n h]; norm_cast

/-- A test's bit is one exactly when the test holds. -/
theorem ofBool_decide (p : Prop) [Decidable p] : BitVec.ofBool (decide p) = 1#1 ↔ p := by
  by_cases h : p <;> simp [h]

end Hd

end
-- ==== Proof.KernelVal.lean ====
/-
  The kernel's boundary masks and distances at the extended reals are those of `Spec`.
-/
module

public import proofs.«01_k».proof.Proof.KernelBody
public import proofs.«01_k».proof.Proof.Spec
public import proofs.«01_k».proof.Proof.Consts

@[expose] public section

set_option maxRecDepth 16384

noncomputable section

namespace Cert.KernelIdeal.Val

open Cert.KernelIdeal Cert.KernelIdeal.Gen Cert.KernelIdeal.Body
open Idealize.ShloMosaic
open Hd

/-- A vector of ones and zeros that is the mask `M`. -/
def IsMask (v : FVec Ideal S256x256 .f32) (M : Mask) : Prop := ∀ i j, v (ix2 i j) = if M i j = true then (1 : EReal) else 0

/-- A vector of natural numbers. -/
def IsNat (v : FVec Ideal S256x256 .f32) (D : Fin 256 → Fin 256 → ℕ) : Prop := ∀ i j, v (ix2 i j) = (((D i j : ℕ) : ℝ) : EReal)

/-- A row table of natural numbers. -/
def IsNat3 (v : FVec Ideal S256x1x256 .f32) (D : Fin 256 → Fin 256 → ℕ) : Prop := ∀ i j, v (ix3 i 0 j) = (((D i j : ℕ) : ℝ) : EReal)

/-- The target's mask. -/
def gmB (x1 : Vec Ideal S1x1x256x256 .i32) : Mask := fun i j => decide (IntOp.cmpi .sgt (x1 (ix4 0 0 i j)) 0#32 = 1#1)
/-- The prediction's mask. -/
def pmB (x0 : Vec Ideal S1x1x256x256 .f32) : Mask := fun i j => decide (FloatOps.cmpf (F := Ideal) (φ := .f32) .ogt (Ideal.logistic (x0 (ix4 0 0 i j))) (Ideal.ofBits .f32 0x3F000000#32) = 1#1)

/-- The target's mask as ones and zeros. -/
theorem pay21_mask (x1 : Vec Ideal S1x1x256x256 .i32) : IsMask (k0_pay21 (F := Ideal) x1) (gmB x1) := fun i j => by
  pointwise [k0_pay21]
  simp only [Scalar.select, gmB, decide_eq_true_eq]
  rfl

/-- One and zero multiply as truth values do. -/
theorem ind_mul (a b : Bool) : ((if a = true then (1 : EReal) else 0) * if b = true then (1 : EReal) else 0) = if (a && b) = true then 1 else 0 := by
  cases a <;> cases b <;> simp

/-- A mask's boundary, in ones and zeros. -/
theorem ind_bd (a b : Bool) : ((if a = true then (1 : EReal) else 0) * (1 - if b = true then (1 : EReal) else 0)) = if (a && !b) = true then 1 else 0 := by
  have h : (1 : EReal) - 1 = 0 := by rw [← EReal.coe_one, ← EReal.coe_sub]; simp
  cases a <;> cases b <;> simp [h]

/-- The boundary of a mask of ones and zeros. -/
theorem pay23_mask (v : FVec Ideal S256x256 .f32) (M : Mask) (h : IsMask v M) : IsMask (k0_pay23 (F := Ideal) v) (bd M) := fun i j => by
  have h0 : ∀ i j, v (ix2 i j) = if M i j = true then (1 : EReal) else 0 := h
  have hb : (if h' : i.val < 255 then v (ix2 ⟨1 + i.val, by omega⟩ j) else (0 : EReal)) = if below M i j = true then 1 else 0 := by
    unfold below
    by_cases c : i.val < 255
    · rw [dif_pos c, dif_pos c, h0]; simp only [Nat.add_comm 1]
    · simp [c]
  have ha : (if h' : i.val < 1 then (0 : EReal) else v (ix2 ⟨i.val - 1, by omega⟩ j)) = if above M i j = true then 1 else 0 := by
    unfold above
    by_cases c : i.val < 1
    · simp [c]
    · rw [dif_neg c, if_neg c, h0]
  have hr : (if h' : j.val < 255 then v (ix2 i ⟨1 + j.val, by omega⟩) else (0 : EReal)) = if right M i j = true then 1 else 0 := by
    unfold right
    by_cases c : j.val < 255
    · rw [dif_pos c, dif_pos c, h0]; simp only [Nat.add_comm 1]
    · simp [c]
  have hl : (if h' : j.val < 1 then (0 : EReal) else v (ix2 i ⟨j.val - 1, by omega⟩)) = if left M i j = true then 1 else 0 := by
    unfold left
    by_cases c : j.val < 1
    · simp [c]
    · rw [dif_neg c, if_neg c, h0]
  pointwise [k0_pay23]
  rw [hb, ha, hr, hl, h i j]
  simp only [ind_mul]
  exact ind_bd _ _

/-- The prediction's mask as ones and zeros. -/
def pmF (v0 : FVec Ideal S1x1x256x256 .f32) : FVec Ideal S256x256 .f32 :=
  select (cmpf .ogt (logistic (shapeCast S256x256 v0 shapeCasts_S1x1x256x256_S256x256)) (broadcast S256x256 (Scalar.ofBits .f32 0x3F000000#32)))
    (broadcast S256x256 (Scalar.ofBits .f32 0x3F800000#32)) (broadcast S256x256 (Scalar.ofBits .f32 0x00000000#32))

/-- It is the prediction's mask. -/
theorem pmF_mask (x0 : Vec Ideal S1x1x256x256 .f32) : IsMask (pmF x0) (pmB x0) := fun i j => by
  pointwise [pmF]
  simp only [pmB, decide_eq_true_eq, Ideal.cmpf_def, Ideal.cmp, ofBool_decide]

/-- The first payload is the boundary of the prediction's mask. -/
theorem pay22_eq (x0 : Vec Ideal S1x1x256x256 .f32) : k0_pay22 (F := Ideal) x0 = k0_pay23 (pmF x0) := rfl

/-- The prediction's boundary. -/
theorem epV_mask (x0 : Vec Ideal S1x1x256x256 .f32) : IsMask (epV (F := Ideal) x0) (bd (pmB x0)) := by
  show IsMask (k0_pay22 (F := Ideal) x0) _
  rw [pay22_eq]; exact pay23_mask _ _ (pmF_mask x0)

/-- The target's boundary. -/
theorem egV_mask (x1 : Vec Ideal S1x1x256x256 .i32) : IsMask (egV (F := Ideal) x1) (bd (gmB x1)) :=
  pay23_mask _ _ (pay21_mask x1)

/-- The trip that writes row `n`, as an even number. -/
theorem trip_row (n : Fin 256) : (Scalar.muli 2#32 (Scf.iv 0#32 1#32 (tr1 n).val)).toInt = ((2 * (n.val / 2) : ℕ) : ℤ) := by
  have e : Scalar.muli 2#32 (Scf.iv 0#32 1#32 (tr1 n).val) = BitVec.ofNat 32 (2 * (n.val / 2)) := by
    show 2#32 * (0#32 + BitVec.ofNat 32 (n.val / 2) * 1#32) = _
    rw [BitVec.zero_add, BitVec.mul_one, BitVec.ofNat_mul]
  rw [e, toInt_nat _ (by omega)]

/-- One pass of the squared distance transform: the minimum over a row of value plus squared offset. -/
theorem rowsA1_apply (A : FVec Ideal S256x256 .f32) (f : Fin 256 → Fin 256 → ℕ)
    (hA : ∀ a j : Fin 256, A (ix2 a j) = (((f a j + a.val * a.val : ℕ) : ℝ) : EReal)) :
    IsNat3 (rowsA1 (F := Ideal) (k0_pay25 (F := Ideal)) A)
      (fun n j => Finset.univ.inf' ⟨0, Finset.mem_univ _⟩ fun a => f a j + dsq n a) := fun n j => by
  have key : ∀ c : ℝ, c = n.val → (Finset.univ : Finset (Fin 256)).fold min (⊤ : EReal) (fun x => A (ix2 x j) - ((c : ℝ) : EReal) * ((((x.val : ℕ) : ℝ) : EReal) + (((x.val : ℕ) : ℝ) : EReal))) + ((c : ℝ) : EReal) * ((c : ℝ) : EReal)
      = (((Finset.univ.inf' ⟨0, Finset.mem_univ _⟩ fun a => f a j + dsq n a : ℕ) : ℝ) : EReal) := by
    rintro c rfl
    have hfun : (fun x : Fin 256 => A (ix2 x j) - (((n.val : ℕ) : ℝ) : EReal) * ((((x.val : ℕ) : ℝ) : EReal) + (((x.val : ℕ) : ℝ) : EReal)))
        = fun x : Fin 256 => ((((f x j + x.val * x.val : ℕ) : ℝ) - (n.val : ℝ) * ((x.val : ℝ) + (x.val : ℝ)) : ℝ) : EReal) := by
      funext x; rw [hA]; norm_cast
    rw [hfun, ← EReal.coe_mul]
    refine fold_min_add _ _ _ fun x => ?_
    push_cast
    rw [dsq_cast]; ring
  pointwise [rowsA1, k0_pay6, k0_pay29, k0_pay8, k0_pay4, k0_pay3, k0_pay1, k0_pay2, k0_pay25, k0_pay24, rowNo, lane]
  rw [trip_row n]
  have hs : ∀ x : Fin 256, FloatOps.sitofp (F := Ideal) .f32 (BitVec.ofNat 32 x.val) = (((x.val : ℕ) : ℝ) : EReal) := fun x => sitofp_nat _ (by omega)
  have hi : ∀ x : Fin 256, A (ix2 x (ValueIdx.ix3 (0 : Fin 1) (0 : Fin 1) j (2 : Fin 3))) = A (ix2 x j) := fun x => rfl
  simp only [c_top, hs, hi]
  split_ifs with he
  · exact key (((2 * (n.val / 2) : ℕ) : ℤ) : ℝ) (by rw [Int.cast_natCast]; congr 1; omega)
  · have ho : ((((2 * (n.val / 2) : ℕ) : ℤ) : ℝ) : EReal) + 1 = (((n.val : ℕ) : ℝ) : EReal) := by
      rw [← EReal.coe_one, ← EReal.coe_add]; congr 1; rw [Int.cast_natCast]; norm_cast; omega
    rw [ho, ← key _ rfl]
    congr 1
    refine Finset.fold_congr fun x _ => ?_
    rw [hA, ← ho]
    simp only [← EReal.coe_one, ← EReal.coe_add, ← EReal.coe_mul, ← EReal.coe_sub]
    congr 1; ring

/-- The four distance passes are the same operation. -/
theorem rowsB1_eq (I A : FVec Ideal S256x256 .f32) : rowsB1 (F := Ideal) I A = rowsA1 I A := rfl
/-- The same of the second pass. -/
theorem rowsA2_eq (I A : FVec Ideal S256x256 .f32) : rowsA2 (F := Ideal) I A = rowsA1 I A := rfl
/-- The same of the second pass's second result. -/
theorem rowsB2_eq (I A : FVec Ideal S256x256 .f32) : rowsB2 (F := Ideal) I A = rowsA1 I A := rfl

/-- The named constant is ten to the twelfth. -/
theorem c_named : Named.named (F := Ideal) (φ := .f32) κ "tenToTwelve" 0x5368D4A5#32 = ((1000000000000 : ℝ) : EReal) :=
  IdealRules.named_const.ideal_named_scalar _ _ _ _ rfl

/-- The seeds of the first pass: nothing on the mask, ten to the twelfth off it, plus the squared column number. -/
theorem pay27_apply (E : FVec Ideal S256x256 .f32) (X : Mask) (h : IsMask E X) (a j : Fin 256) :
    k0_pay27 (F := Ideal) E (ix2 a j) = ((((if X j a = true then 0 else 1000000000000) + a.val * a.val : ℕ) : ℝ) : EReal) := by
  pointwise [k0_pay27, k0_pay26, k0_pay24]
  rw [sitofp_nat _ (by omega), c_named, c_half, h j a]
  cases X j a
  · rw [if_neg (by simp)]; simp only [Bool.false_eq_true, if_false]; norm_cast
  · rw [if_pos (by simp only [if_true]; rw [← EReal.coe_one, EReal.coe_lt_coe_iff]; norm_num)]; simp only [if_true]; norm_cast

/-- The seeds of the second pass. -/
theorem pay31_apply (A : FVec Ideal S256x1x256 .f32) (f : Fin 256 → Fin 256 → ℕ) (h : IsNat3 A f) (a j : Fin 256) :
    k0_pay31 (F := Ideal) k0_pay26 A (ix2 a j) = (((f j a + a.val * a.val : ℕ) : ℝ) : EReal) := by
  pointwise [k0_pay31, k0_pay26, k0_pay24]
  rw [sitofp_nat _ (by omega), h j a]
  norm_cast

/-- The masked squared distances. -/
theorem pay35_apply (E : FVec Ideal S256x256 .f32) (X : Mask) (h : IsMask E X) (A : FVec Ideal S256x1x256 .f32) (f : Fin 256 → Fin 256 → ℕ) (hA : IsNat3 A f) :
    IsNat (k0_pay35 (F := Ideal) E (Scalar.ofBits .f32 0x3F000000#32) A) (fun i j => U X f (i, j)) := fun i j => by
  pointwise [k0_pay35]
  rw [c_fill, c_half, h i j, hA i j]
  unfold U
  cases hx : X i j
  · rw [if_neg (by simp)]; simp [hx, fillN]
  · rw [if_pos (by simp only [if_true]; rw [← EReal.coe_one, EReal.coe_lt_coe_iff]; norm_num)]; simp [hx]

/-- The first pass gives the squared distances along rows. -/
theorem first_pass (E : FVec Ideal S256x256 .f32) (X : Mask) (h : IsMask E X) :
    IsNat3 (rowsA1 (F := Ideal) (k0_pay25 (F := Ideal)) (k0_pay27 (F := Ideal) E)) (fun n j => N1 X j n) :=
  rowsA1_apply _ (fun a j => if X j a = true then 0 else 1000000000000) (pay27_apply E X h)

/-- Both passes give the squared distances to the mask. -/
theorem both_passes (E : FVec Ideal S256x256 .f32) (X : Mask) (h : IsMask E X) :
    IsNat3 (rowsA1 (F := Ideal) (k0_pay25 (F := Ideal)) (k0_pay31 (F := Ideal) k0_pay26 (rowsA1 (F := Ideal) (k0_pay25 (F := Ideal)) (k0_pay27 (F := Ideal) E)))) (N2 X) :=
  rowsA1_apply _ (fun a j => N1 X a j) (pay31_apply _ _ (first_pass E X h))

/-- The target's squared distances. -/
theorem dgV_nat (x1 : Vec Ideal S1x1x256x256 .i32) : IsNat3 (dgV (F := Ideal) x1) (N2 (bd (gmB x1))) := by
  unfold dgV
  rw [rowsA2_eq]
  exact both_passes _ _ (egV_mask x1)

/-- The prediction's squared distances. -/
theorem dpV_nat (x0 : Vec Ideal S1x1x256x256 .f32) : IsNat3 (dpV (F := Ideal) x0) (N2 (bd (pmB x0))) := by
  unfold dpV
  rw [rowsB2_eq, rowsB1_eq]
  exact both_passes _ _ (epV_mask x0)

/-- The target's squared distances over the prediction's boundary. -/
theorem u1V_nat (x0 : Vec Ideal S1x1x256x256 .f32) (x1 : Vec Ideal S1x1x256x256 .i32) :
    IsNat (u1V (F := Ideal) x0 x1) (fun i j => U (bd (pmB x0)) (N2 (bd (gmB x1))) (i, j)) :=
  pay35_apply _ _ (epV_mask x0) _ _ (dgV_nat x1)

/-- The prediction's squared distances over the target's boundary. -/
theorem u2V_nat (x0 : Vec Ideal S1x1x256x256 .f32) (x1 : Vec Ideal S1x1x256x256 .i32) :
    IsNat (u2V (F := Ideal) x0 x1) (fun i j => U (bd (gmB x1)) (N2 (bd (pmB x0))) (i, j)) :=
  pay35_apply _ _ (egV_mask x1) _ _ (dpV_nat x0)

end Cert.KernelIdeal.Val

end
-- ==== Proof.KernelOut.lean ====
/-
  The kernel's counts, its search and its percentiles at the extended reals.
-/
module

public import proofs.«01_k».proof.Proof.KernelVal

@[expose] public section

set_option maxRecDepth 16384

noncomputable section

namespace Cert.KernelIdeal.Val

open Cert.KernelIdeal Cert.KernelIdeal.Gen Cert.KernelIdeal.Body
open Idealize.ShloMosaic
open Hd

/-! ## Counts -/

/-- Reals among the extended reals, as a map of sums. -/
def toE : ℝ →+ EReal := ⟨⟨fun r => ((r : ℝ) : EReal), EReal.coe_zero⟩, EReal.coe_add⟩

/-- How many elements a test holds of, as a sum of ones. -/
theorem sum_ones (p : Px → Prop) [DecidablePred p] :
    (∑ i : Fin 256, ∑ j : Fin 256, if p (i, j) then (1 : EReal) else 0) = ((((Finset.univ.filter p).card : ℕ) : ℝ) : EReal) := by
  have h1 : ∀ i j : Fin 256, (if p (i, j) then (1 : EReal) else 0) = toE (if p (i, j) then 1 else 0) := fun i j => by
    split_ifs
    · exact EReal.coe_one.symm
    · exact EReal.coe_zero.symm
  simp only [h1, ← map_sum]
  show ((_ : ℝ) : EReal) = _
  congr 1
  rw [← Finset.sum_boole, ← Finset.univ_product_univ, Finset.sum_product]

/-- How many elements are at most `t`. -/
def sumI (u : FVec Ideal S256x256 .f32) (t : EReal) : EReal := ∑ i : Fin 256, ∑ j : Fin 256, if u (ix2 i j) ≤ t then (1 : EReal) else 0

/-- It is the count. -/
theorem sumI_eq (u : FVec Ideal S256x256 .f32) (Uf : Px → ℕ) (h : IsNat u fun i j => Uf (i, j)) (n : ℕ) (t : EReal) (ht : t = (((n : ℕ) : ℝ) : EReal)) :
    sumI u t = (((cnt Uf n : ℕ) : ℝ) : EReal) := by
  unfold sumI cnt
  rw [← sum_ones]
  refine Finset.sum_congr rfl fun i _ => Finset.sum_congr rfl fun j _ => ?_
  have e : u (ix2 i j) = (((Uf (i, j) : ℕ) : ℝ) : EReal) := h i j
  refine if_congr ?_ rfl rfl
  rw [e, ht, EReal.coe_le_coe_iff, Nat.cast_le]

/-- The position of the percentile. -/
theorem pay37_eq (u : FVec Ideal S256x256 .f32) (E : Mask) (h : IsMask u E) : k0_pay37 (F := Ideal) u (ix2 0 0) = ((posR (card E) : ℝ) : EReal) := by
  have hs : (∑ i : Fin 256, ∑ j : Fin 256, u (ix2 i j)) = (((card E : ℕ) : ℝ) : EReal) := by
    unfold card
    rw [← sum_ones]
    exact Finset.sum_congr rfl fun i _ => Finset.sum_congr rfl fun j _ => h i j
  have hm : max ((card E : ℝ) - 1) 0 = ((card E - 1 : ℕ) : ℝ) := by
    rcases Nat.eq_zero_or_pos (card E) with h0 | h0
    · rw [h0]; norm_num
    · rw [Nat.cast_sub h0, Nat.cast_one, max_eq_left]
      have : (1 : ℝ) ≤ card E := by exact_mod_cast h0
      linarith
  pointwise [k0_pay37]
  rw [hs, c_w, ← EReal.coe_one, ← EReal.coe_zero, ← EReal.coe_sub, ← EReal.coe_strictMono.monotone.map_max, hm, ← EReal.coe_mul]
  rfl
/-- The same of the other side. -/
theorem pay43_eq (u : FVec Ideal S256x256 .f32) (E : Mask) (h : IsMask u E) : k0_pay43 (F := Ideal) u (ix2 0 0) = ((posR (card E) : ℝ) : EReal) := pay37_eq u E h

/-- Rounding the position down gives the place. -/
theorem floor_pos (n : ℕ) : Ideal.liftRound Int.floor ((posR n : ℝ) : EReal) = (((place n : ℕ) : ℝ) : EReal) := by
  rw [Ideal.liftRound_coe, floor_posR]; norm_cast

/-- Clipping a place between nothing and the last index changes nothing. -/
theorem clip_eq (k : ℕ) (h : k ≤ 65535) : min (Ideal.ofBits .f32 0x477FFF00#32) (max 0 (((k : ℕ) : ℝ) : EReal)) = (((k : ℕ) : ℝ) : EReal) := by
  rw [c_last, max_eq_right (EReal.coe_nonneg.mpr (Nat.cast_nonneg k)), min_eq_right]
  rw [EReal.coe_le_coe_iff]; exact_mod_cast h

/-- A natural number plus one. -/
theorem add_one_cast (k : ℕ) : (((k : ℕ) : ℝ) : EReal) + 1 = (((k + 1 : ℕ) : ℝ) : EReal) := by
  rw [← EReal.coe_one, ← EReal.coe_add]; norm_cast

/-- The lower count asked for. -/
theorem kl_eq (u : FVec Ideal S256x256 .f32) (E : Mask) (h : IsMask u E) :
    k0_pay41 (F := Ideal) (Scalar.ofBits .f32 0x477FFF00#32) (k0_pay40 u) (ix2 0 0) = (((place (card E) + 1 : ℕ) : ℝ) : EReal) := by
  have := place_lt (card_le E)
  pointwise [k0_pay41, k0_pay40, k0_pay38]
  rw [pay37_eq u E h, floor_pos, clip_eq _ (by omega), add_one_cast]
/-- The same of the other side. -/
theorem kl2_eq (u : FVec Ideal S256x256 .f32) (E : Mask) (h : IsMask u E) :
    k0_pay46 (F := Ideal) u (ix2 0 0) = (((place (card E) + 1 : ℕ) : ℝ) : EReal) := kl_eq u E h
/-- The upper count asked for. -/
theorem kh_eq (u : FVec Ideal S256x256 .f32) (E : Mask) (h : IsMask u E) :
    k0_pay42 (F := Ideal) (k0_pay38 u) (ix2 0 0) = (((place (card E) + 2 : ℕ) : ℝ) : EReal) := by
  have := place_lt (card_le E)
  pointwise [k0_pay42, k0_pay38]
  rw [pay37_eq u E h, floor_pos, add_one_cast, clip_eq _ (by omega), add_one_cast]
/-- The same of the other side. -/
theorem kh2_eq (u : FVec Ideal S256x256 .f32) (E : Mask) (h : IsMask u E) :
    k0_pay47 (F := Ideal) u (ix2 0 0) = (((place (card E) + 2 : ℕ) : ℝ) : EReal) := kh_eq u E h
/-- The fraction. -/
theorem frac_eq (u : FVec Ideal S256x256 .f32) (E : Mask) (h : IsMask u E) : k0_pay39 (F := Ideal) u (ix2 0 0) = ((frac (card E) : ℝ) : EReal) := by
  pointwise [k0_pay39, k0_pay38]
  rw [pay37_eq u E h, floor_pos, ← EReal.coe_sub]
  rfl
/-- The same of the other side. -/
theorem frac2_eq (u : FVec Ideal S256x256 .f32) (E : Mask) (h : IsMask u E) : k0_pay45 (F := Ideal) u (ix2 0 0) = ((frac (card E) : ℝ) : EReal) := frac_eq u E h

/-! ## The search -/

/-- Whether enough elements are at most `b`. -/
def PS (v : EReal) (u : FVec Ideal S256x256 .f32) (b : BitVec 32) : Prop := v ≤ sumI u (FloatOps.sitofp (F := Ideal) .f32 b)

instance (v : EReal) (u : FVec Ideal S256x256 .f32) : DecidablePred (PS v u) := fun _ => Classical.propDecidable _

/-- One trip narrows the first bracket. -/
theorem step_fst (k1 k2 : FVec Ideal S1x1 .f32) (u1 u2 : FVec Ideal S256x256 .f32) (s : IVec S1x1 32 × IVec S1x1 32 × IVec S1x1 32 × IVec S1x1 32) :
    (((stepS (F := Ideal) k1 k2 u1 u2 s).1 (ix2 0 0), (stepS (F := Ideal) k1 k2 u1 u2 s).2.1 (ix2 0 0)) : BitVec 32 × BitVec 32)
      = bis (PS (k1 (ix2 0 0)) u1) (s.1 (ix2 0 0), s.2.1 (ix2 0 0)) := by
  have e1 : (stepS (F := Ideal) k1 k2 u1 u2 s).1 (ix2 0 0) = (bis (PS (k1 (ix2 0 0)) u1) (s.1 (ix2 0 0), s.2.1 (ix2 0 0))).1 := by
    show k0_pay54 (F := Ideal) k1 s.1 s.2.1 u1 (ix2 0 0) = _
    pointwise [k0_pay54, k0_pay52, k0_pay50]
    unfold bis
    rw [apply_ite Prod.fst]
    exact if_congr Iff.rfl rfl rfl
  have e2 : (stepS (F := Ideal) k1 k2 u1 u2 s).2.1 (ix2 0 0) = (bis (PS (k1 (ix2 0 0)) u1) (s.1 (ix2 0 0), s.2.1 (ix2 0 0))).2 := by
    show k0_pay55 (F := Ideal) k1 s.1 s.2.1 u1 (ix2 0 0) = _
    pointwise [k0_pay55, k0_pay52, k0_pay50]
    unfold bis
    rw [apply_ite Prod.snd]
    exact if_congr Iff.rfl rfl rfl
  rw [e1, e2]
/-- One trip narrows the second bracket. -/
theorem step_snd (k1 k2 : FVec Ideal S1x1 .f32) (u1 u2 : FVec Ideal S256x256 .f32) (s : IVec S1x1 32 × IVec S1x1 32 × IVec S1x1 32 × IVec S1x1 32) :
    (((stepS (F := Ideal) k1 k2 u1 u2 s).2.2.1 (ix2 0 0), (stepS (F := Ideal) k1 k2 u1 u2 s).2.2.2 (ix2 0 0)) : BitVec 32 × BitVec 32)
      = bis (PS (k2 (ix2 0 0)) u2) (s.2.2.1 (ix2 0 0), s.2.2.2 (ix2 0 0)) :=
  step_fst k2 k1 u2 u1 (s.2.2.1, s.2.2.2, s.1, s.2.1)

/-- All the trips, on the first bracket. -/
theorem search_fst (k1 k2 : FVec Ideal S1x1 .f32) (u1 u2 : FVec Ideal S256x256 .f32) (n : ℕ) (s : IVec S1x1 32 × IVec S1x1 32 × IVec S1x1 32 × IVec S1x1 32) :
    ((((stepS (F := Ideal) k1 k2 u1 u2)^[n] s).1 (ix2 0 0), ((stepS (F := Ideal) k1 k2 u1 u2)^[n] s).2.1 (ix2 0 0)) : BitVec 32 × BitVec 32)
      = (bis (PS (k1 (ix2 0 0)) u1))^[n] (s.1 (ix2 0 0), s.2.1 (ix2 0 0)) := by
  induction n generalizing s with
  | zero => rfl
  | succ n ih => rw [Function.iterate_succ_apply, Function.iterate_succ_apply, ih, step_fst]
/-- All the trips, on the second bracket. -/
theorem search_snd (k1 k2 : FVec Ideal S1x1 .f32) (u1 u2 : FVec Ideal S256x256 .f32) (n : ℕ) (s : IVec S1x1 32 × IVec S1x1 32 × IVec S1x1 32 × IVec S1x1 32) :
    ((((stepS (F := Ideal) k1 k2 u1 u2)^[n] s).2.2.1 (ix2 0 0), ((stepS (F := Ideal) k1 k2 u1 u2)^[n] s).2.2.2 (ix2 0 0)) : BitVec 32 × BitVec 32)
      = (bis (PS (k2 (ix2 0 0)) u2))^[n] (s.2.2.1 (ix2 0 0), s.2.2.2 (ix2 0 0)) := by
  induction n generalizing s with
  | zero => rfl
  | succ n ih => rw [Function.iterate_succ_apply, Function.iterate_succ_apply, ih, step_snd]

/-- The test of the search is the count's. -/
theorem PS_iff (u : FVec Ideal S256x256 .f32) (Uf : Px → ℕ) (h : IsNat u fun i j => Uf (i, j)) (k : ℕ) (b : BitVec 32) (hb : b.toNat ≤ 130050) :
    PS (((k + 1 : ℕ) : ℝ) : EReal) u b ↔ k + 1 ≤ cnt Uf b.toNat := by
  unfold PS
  have e : FloatOps.sitofp (F := Ideal) .f32 b = (((b.toNat : ℕ) : ℝ) : EReal) := by
    have := sitofp_nat b.toNat (by omega)
    rwa [BitVec.ofNat_toNat, BitVec.setWidth_eq] at this
  rw [sumI_eq u Uf h b.toNat _ e, EReal.coe_le_coe_iff, Nat.cast_le]

/-- What is left of the search: the value at the place. -/
theorem lo_rank (u : FVec Ideal S256x256 .f32) (Uf : Px → ℕ) (h : IsNat u fun i j => Uf (i, j))
    (hU : ∀ p, Uf p ≤ 130050 ∨ Uf p = 1000000000000 ∨ Uf p = fillN) (k : ℕ) (hk : k < 65536) (b : BitVec 32)
    (hb : b = ((bis (PS (((k + 1 : ℕ) : ℝ) : EReal) u))^[17] (0#32, 130050#32)).1) :
    (if (((k + 1 : ℕ) : ℝ) : EReal) ≤ sumI u (Ideal.ofBits .f32 0x47FE0100#32) then FloatOps.sitofp (F := Ideal) .f32 b
      else if (((k + 1 : ℕ) : ℝ) : EReal) ≤ sumI u (Named.named (F := Ideal) (φ := .f32) κ "tenToTwelve" 0x5368D4A5#32) then Named.named (F := Ideal) (φ := .f32) κ "tenToTwelve" 0x5368D4A5#32
      else if (((k + 1 : ℕ) : ℝ) : EReal) ≤ sumI u (Ideal.ofBits .f32 0x5368D4A6#32) then Ideal.ofBits .f32 0x5368D4A6#32
      else if (((k + 1 : ℕ) : ℝ) : EReal) ≤ sumI u (Ideal.ofBits .f32 0x5368D4A7#32) then Ideal.ofBits .f32 0x5368D4A7#32
      else Ideal.ofBits .f32 0x53E8D4A5#32) = (((rk Uf k : ℕ) : ℝ) : EReal) := by
  have hp := pick_isRank Uf hU (lo := b.toNat) hk fun hc => by
    rw [hb]
    exact (bis_isRank Uf _ (fun c hc => PS_iff u Uf h k c hc) hc).1
  rw [← hp.eq_rk]
  rw [sumI_eq u Uf h 130050 _ (by rw [c_far]; norm_num), sumI_eq u Uf h 1000000000000 _ (by rw [c_named]; norm_num),
    sumI_eq u Uf h 1000000061440 _ (by rw [c_l2]; norm_num), sumI_eq u Uf h 1000000126976 _ (by rw [c_l3]; norm_num)]
  simp only [EReal.coe_le_coe_iff, Nat.cast_le]
  unfold pick
  split_ifs with h1 h2 h3 h4
  · have hlt : b.toNat ≤ 130050 := by rw [hb]; exact (bis_isRank Uf _ (fun c hc => PS_iff u Uf h k c hc) h1).2
    have := sitofp_nat b.toNat (by omega)
    rwa [BitVec.ofNat_toNat, BitVec.setWidth_eq] at this
  · rw [c_named]; norm_num
  · rw [c_l2]; norm_num
  · rw [c_l3]; norm_num
  · rw [c_fill]; norm_num

/-- The value at the next place. -/
theorem hi_rank (u : FVec Ideal S256x256 .f32) (Uf : Px → ℕ) (h : IsNat u fun i j => Uf (i, j))
    (hU : ∀ p, Uf p ≤ 130050 ∨ Uf p = 1000000000000 ∨ Uf p = fillN) (k : ℕ) (hk : k + 1 < 65536) :
    (if (((k + 2 : ℕ) : ℝ) : EReal) ≤ sumI u (((rk Uf k : ℕ) : ℝ) : EReal) then (((rk Uf k : ℕ) : ℝ) : EReal)
      else Finset.fold min (Ideal.ofBits .f32 0x7F800000#32) (fun x : Fin 256 × Fin 256 => if (((rk Uf k : ℕ) : ℝ) : EReal) < u (ix2 x.1 x.2) then u (ix2 x.1 x.2) else Ideal.ofBits .f32 0x5468D4A5#32) Finset.univ)
      = (((rk Uf (k + 1) : ℕ) : ℝ) : EReal) := by
  have hn := next_isRank Uf (fun p => by unfold fillN at *; have := hU p; omega) hk (isRank_rk Uf (k := k) (by omega))
  rw [← hn.eq_rk, sumI_eq u Uf h _ _ rfl]
  simp only [EReal.coe_le_coe_iff, Nat.cast_le]
  split_ifs with h1
  · rfl
  · have e : (fun x : Fin 256 × Fin 256 => if (((rk Uf k : ℕ) : ℝ) : EReal) < u (ix2 x.1 x.2) then u (ix2 x.1 x.2) else Ideal.ofBits .f32 0x5468D4A5#32)
        = fun x => (((if rk Uf k < Uf x then Uf x else 3999999983616 : ℕ) : ℝ) : EReal) := by
      funext x
      have e1 : u (ix2 x.1 x.2) = (((Uf x : ℕ) : ℝ) : EReal) := h x.1 x.2
      rw [e1, c_out]
      simp only [EReal.coe_lt_coe_iff, Nat.cast_lt]
      split_ifs
      · rfl
      · norm_num
    rw [c_top, e]
    exact fold_min_nat _

/-- The root of a value, ten to the twelfth outside the mask. -/
theorem root_eq (n : ℕ) : (if Ideal.ofBits .f32 0x53E8D4A5#32 ≤ (((n : ℕ) : ℝ) : EReal) then Named.named (F := Ideal) (φ := .f32) κ "tenToTwelve" 0x5368D4A5#32 else Ideal.sqrt (((n : ℕ) : ℝ) : EReal)) = ((φ n : ℝ) : EReal) := by
  have e : (Ideal.ofBits .f32 0x53E8D4A5#32 ≤ (((n : ℕ) : ℝ) : EReal)) ↔ fillN ≤ n := by
    rw [c_fill, EReal.coe_le_coe_iff]
    unfold fillN
    rw [← Nat.cast_le (α := ℝ)]; norm_num
  rw [if_congr e rfl rfl, c_named, Ideal.sqrt_coe, if_neg (not_lt.mpr (Nat.cast_nonneg n))]
  unfold φ
  split_ifs <;> rfl

/-- Two values interpolated. -/
theorem mix_eq (a b f : ℝ) : ((a : ℝ) : EReal) * (1 - ((f : ℝ) : EReal)) + ((b : ℝ) : EReal) * ((f : ℝ) : EReal) = ((a * (1 - f) + b * f : ℝ) : EReal) := by
  rw [← EReal.coe_one, ← EReal.coe_sub, ← EReal.coe_mul, ← EReal.coe_mul, ← EReal.coe_add]

/-- The last operations: two percentiles and their maximum. -/
theorem pay71_eq (a b c d e f g h i : FVec Ideal S1x1 .f32) (k : FVec Ideal S1 .f32) (fa fc : ℝ) (ne nf ni nk : ℕ)
    (ha : a (ix2 0 0) = ((fa : ℝ) : EReal)) (hc : c (ix2 0 0) = ((fc : ℝ) : EReal))
    (he : e (ix2 0 0) = (((ne : ℕ) : ℝ) : EReal)) (hf : f (ix2 0 0) = (((nf : ℕ) : ℝ) : EReal))
    (hi : ∀ inst : Decidable (b (ix2 0 0) ≤ g (ix2 0 0)), @ite _ (b (ix2 0 0) ≤ g (ix2 0 0)) inst (e (ix2 0 0)) (i (ix2 0 0)) = (((ni : ℕ) : ℝ) : EReal))
    (hk : ∀ inst : Decidable (d (ix2 0 0) ≤ h (ix2 0 0)), @ite _ (d (ix2 0 0) ≤ h (ix2 0 0)) inst (f (ix2 0 0)) (k (ix1 0)) = (((nk : ℕ) : ℝ) : EReal)) :
    k0_pay71 (F := Ideal) a b c d e f g h i k (ix3 0 0 0) = ((max (φ ne * (1 - fa) + φ ni * fa) (φ nf * (1 - fc) + φ nk * fc) : ℝ) : EReal) := by
  pointwise [k0_pay71]
  simp only [hi, hk]
  simp only [ha, hc, he, hf, root_eq, mix_eq]
  exact (EReal.coe_strictMono.monotone.map_max).symm

/-- The least element above `t`, or the number beyond everything. -/
def minI (u : FVec Ideal S256x256 .f32) (t : EReal) : EReal :=
  Finset.fold min (Ideal.ofBits .f32 0x7F800000#32) (fun x : Fin 256 × Fin 256 => if t < u (ix2 x.1 x.2) then u (ix2 x.1 x.2) else Ideal.ofBits .f32 0x5468D4A5#32) Finset.univ

/-- The count up to the value at the place. -/
theorem pay67_eq (l : FVec Ideal S1x1 .f32) (u : FVec Ideal S256x256 .f32) : k0_pay67 (F := Ideal) l u (ix2 0 0) = sumI u (l (ix2 0 0)) := by
  pointwise [k0_pay67]
  rfl
/-- The same of the other side. -/
theorem pay68_eq (l : FVec Ideal S1x1 .f32) (u : FVec Ideal S256x256 .f32) : k0_pay68 (F := Ideal) l u (ix2 0 0) = sumI u (l (ix2 0 0)) := by
  pointwise [k0_pay68]
  rfl
/-- The least value above the value at the place. -/
theorem pay69_eq (l : FVec Ideal S1x1 .f32) (u : FVec Ideal S256x256 .f32) : k0_pay69 (F := Ideal) l u u (ix2 0 0) = minI u (l (ix2 0 0)) := by
  pointwise [k0_pay69]
  rfl
/-- The same of the other side. -/
theorem pay70_eq (l : FVec Ideal S1x1 .f32) (u : FVec Ideal S256x256 .f32) : k0_pay70 (F := Ideal) l u u (ix1 0) = minI u (l (ix2 0 0)) := by
  pointwise [k0_pay70]
  rfl

/-! ## The block's result -/

variable (x0 : Vec Ideal S1x1x256x256 .f32) (x1 : Vec Ideal S1x1x256x256 .i32)

/-- The first side's value at the place. -/
theorem lo1_eq : lo1V (F := Ideal) x0 x1 (ix2 0 0) = (((rk (U (bd (pmB x0)) (N2 (bd (gmB x1)))) (place (card (bd (pmB x0)))) : ℕ) : ℝ) : EReal) := by
  have hkl : kl1 (F := Ideal) x0 (ix2 0 0) = (((place (card (bd (pmB x0))) + 1 : ℕ) : ℝ) : EReal) := kl_eq _ _ (epV_mask x0)
  have hs := congrArg Prod.fst (search_fst (kl1 (F := Ideal) x0) (kl2 (F := Ideal) x1) (u1V x0 x1) (u2V x0 x1) 17 (s0S k0_pay48))
  rw [hkl] at hs
  have hr := lo_rank (u1V x0 x1) _ (u1V_nat x0 x1) (U_cases _ _) (place (card (bd (pmB x0)))) (by have := place_lt (card_le (bd (pmB x0))); omega) _ hs
  rw [← hr]
  unfold lo1V
  pointwise [k0_pay65, k0_pay58, k0_pay60, k0_pay62, k0_pay64]
  rw [hkl]
  rfl

/-- The second side's value at the place. -/
theorem lo2_eq : lo2V (F := Ideal) x0 x1 (ix2 0 0) = (((rk (U (bd (gmB x1)) (N2 (bd (pmB x0)))) (place (card (bd (gmB x1)))) : ℕ) : ℝ) : EReal) := by
  have hkl : kl2 (F := Ideal) x1 (ix2 0 0) = (((place (card (bd (gmB x1))) + 1 : ℕ) : ℝ) : EReal) := kl2_eq _ _ (egV_mask x1)
  have hs := congrArg Prod.fst (search_snd (kl1 (F := Ideal) x0) (kl2 (F := Ideal) x1) (u1V x0 x1) (u2V x0 x1) 17 (s0S k0_pay48))
  rw [hkl] at hs
  have hr := lo_rank (u2V x0 x1) _ (u2V_nat x0 x1) (U_cases _ _) (place (card (bd (gmB x1)))) (by have := place_lt (card_le (bd (gmB x1))); omega) _ hs
  rw [← hr]
  unfold lo2V
  pointwise [k0_pay66, k0_pay59, k0_pay61, k0_pay63]
  rw [hkl]
  rfl

/-- The block's result is the image's loss. -/
theorem outV_eq (y : S1x1x1.Idx) : outV (F := Ideal) x0 x1 y = ((img (pmB x0) (gmB x1) : ℝ) : EReal) := by
  have e1 := lo1_eq x0 x1
  have e2 := lo2_eq x0 x1
  have h1 := hi_rank (u1V x0 x1) _ (u1V_nat x0 x1) (U_cases _ _) (place (card (bd (pmB x0)))) (place_lt (card_le _))
  have h2 := hi_rank (u2V x0 x1) _ (u2V_nat x0 x1) (U_cases _ _) (place (card (bd (gmB x1)))) (place_lt (card_le _))
  have f1 := frac_eq _ _ (epV_mask x0)
  have f2 := frac2_eq _ _ (egV_mask x1)
  have k1 := kh_eq _ _ (epV_mask x0)
  have k2 := kh2_eq _ _ (egV_mask x1)
  obtain rfl : y = ix3 0 0 0 := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
  unfold outV
  refine pay71_eq _ _ _ _ _ _ _ _ _ _ _ _ _ _ _ _ f1 f2 e1 e2 (fun inst => ?_) (fun inst => ?_)
  · rw [← h1]
    exact if_congr (by rw [k1, pay67_eq, e1]) e1 (by rw [pay69_eq, e1]; rfl)
  · rw [← h2]
    exact if_congr (by rw [k2, pay68_eq, e2]) e2 (by rw [pay70_eq, e2]; rfl)

end Cert.KernelIdeal.Val

end
-- ==== Proof.KernelMean.lean ====
/-
  The kernel's result at the extended reals: the mean of the images' losses.
-/
module

public import proofs.«01_k».proof.Proof.KernelRun
public import proofs.«01_k».proof.Proof.KernelOut
public import Idealize.ShloMosaic.Lib.Pipeline.ValueKit.Geometry
public import Idealize.ShloMosaic.Lib.StableHlo.RunRead

@[expose] public section

set_option maxRecDepth 16384

noncomputable section

namespace Cert.KernelIdeal.Mean

open Cert.KernelIdeal Cert.KernelIdeal.Gen Cert.KernelIdeal.Body Cert.KernelIdeal.Run Cert.KernelIdeal.Val
open Idealize.ShloMosaic Idealize.ShloMosaic.TcCoe Idealize.ShloMosaic.Tactic Idealize.SL.Sem
open Idealize.ShloMosaic.Pipeline (Dat)
open Hd

/-- The target's mask of image `t`. -/
def gmK (a : S4x1x256x256.Idx → BitVec 32) (t : Fin 4) : Mask := fun i j => decide (IntOp.cmpi .sgt (a (ix4 t 0 i j)) 0#32 = 1#1)
/-- The prediction's mask of image `t`. -/
def pmK (a : S4x1x256x256.Idx → EReal) (t : Fin 4) : Mask := fun i j => decide (FloatOps.cmpf (F := Ideal) (φ := .f32) .ogt (Ideal.logistic (a (ix4 t 0 i j))) (Ideal.ofBits .f32 0x3F000000#32) = 1#1)

/-- The loss of image `t`. -/
def loss (a0 : S4x1x256x256.Idx → EReal) (a1 : S4x1x256x256.Idx → BitVec 32) (t : Fin 4) : EReal := ((img (pmK a0 t) (gmK a1 t) : ℝ) : EReal)

variable (m : (ℓ : Loc nD τ sig) → Buf (Elt Ideal) ℓ) (ρ : Dev nD → PrngReg)

/-- The first block of a point is the image of its number. -/
theorem idx0 : ∀ t : Fin cfg0.N, win0_0.index t = ![t.val, 0, 0, 0] := (by decide +kernel : ∀ t : Fin grid0.N, _)
/-- The second block of a point is the image of its number. -/
theorem idx1 : ∀ t : Fin cfg0.N, win0_1.index t = ![t.val, 0, 0, 0] := (by decide +kernel : ∀ t : Fin grid0.N, _)
/-- The result's block of a point is the image of its number. -/
theorem idx2' : ∀ t : Fin cfg0.N, win0_2.index t = ![t.val, 0, 0] := (by decide +kernel : ∀ t : Fin grid0.N, _)

/-- A point's first block is its image of the prediction. -/
theorem blk0 (c : Dev nD) (t : Fin cfg0.N) (i j : Fin 256) :
    (iblk m c 0 t : S1x1x256x256.Idx → EReal) (ix4 0 0 i j) = m ((c.tc : Thread nD τ).loc main_arg0) (ix4 ⟨t.val, t.isLt.trans_eq N_0⟩ 0 i j) := by
  show V m c main_arg0 ((win0_0.blk t).view.emb (ix4 0 0 i j)) = _
  refine congrArg (m ((c.tc : Thread nD τ).loc main_arg0)) ?_
  blk_ext [idx0]
/-- A point's second block is its image of the target. -/
theorem blk1 (c : Dev nD) (t : Fin cfg0.N) (i j : Fin 256) :
    (iblk m c 1 t : S1x1x256x256.Idx → BitVec 32) (ix4 0 0 i j) = m ((c.tc : Thread nD τ).loc main_arg1) (ix4 ⟨t.val, t.isLt.trans_eq N_0⟩ 0 i j) := by
  show V m c main_arg1 ((win0_1.blk t).view.emb (ix4 0 0 i j)) = _
  refine congrArg (m ((c.tc : Thread nD τ).loc main_arg1)) ?_
  blk_ext [idx1]

/-- The result array: image by image, its loss. -/
def losses (c : Dev nD) : Buf (Elt Ideal) ((c.tc : Thread nD τ).loc main_v0) :=
  fun i => loss (m ((c.tc : Thread nD τ).loc main_arg0)) (m ((c.tc : Thread nD τ).loc main_arg1)) (i 0)

/-- What a point leaves is its image's loss. -/
theorem out_point (c : Dev nD) (t : Fin cfg0.N) (y : S1x1x1.Idx) :
    outsAt m c t y = loss (m ((c.tc : Thread nD τ).loc main_arg0)) (m ((c.tc : Thread nD τ).loc main_arg1)) ⟨t.val, t.isLt.trans_eq N_0⟩ := by
  have h0 : pmB (iblk m c 0 t : S1x1x256x256.Idx → EReal) = pmK (m ((c.tc : Thread nD τ).loc main_arg0)) ⟨t.val, t.isLt.trans_eq N_0⟩ := by
    funext i j
    unfold pmB pmK
    rw [blk0]
  have h1 : gmB (iblk m c 1 t : S1x1x256x256.Idx → BitVec 32) = gmK (m ((c.tc : Thread nD τ).loc main_arg1)) ⟨t.val, t.isLt.trans_eq N_0⟩ := by
    funext i j
    unfold gmB gmK
    rw [blk1]
  unfold loss
  rw [← h0, ← h1]
  exact outV_eq (iblk m c 0 t) (iblk m c 1 t) y

/-- The result array ends at the losses. -/
theorem final_o (c : Dev nD) : (dats m 0 c).arrAt 2 cfg0.N = losses m c := by
  refine (dats m 0 c).arrAt_eq_of_covers 2 _ (by decide +kernel) fun t hf y => ?_
  blk_simp
  rw [after0_2]
  refine (out_point m c t y).trans ?_
  unfold losses
  congr 1
  apply Fin.ext
  show t.val = _
  blk_simp [idx2']

/-- The mean of the losses. -/
def mean (x : FVec Ideal S4x1x1 .f32) : FVec Ideal S_ .f32 :=
  Host.divf (Host.reduceAdd x (constant S_ .f32 0x00000000#32) reducesTo_S4x1x1_S_d0_1_2 h_S_) (constant S_ .f32 0x40800000#32)

/-- The lines after the launch leave the mean of the result array. -/
theorem tail_v2 (c : Dev nD) : Pipeline.afterTail₀ cfgs (dats m) 0 (V0 m) [hostOps1] c main_v2 = mean ((dats m 0 c).arrAt 2 cfg0.N) := by
  have hw : Pipeline.withArrays (cfgs 0).spec c (V0 m c) (fun w => (dats m 0 c).arrAt w (cfgs 0).N) (Proc.devRef .tc main_v0) = (dats m 0 c).arrAt 2 cfg0.N :=
    Pipeline.withArrays_arr (cfgs 0).spec (by decide) c (V0 m c) (fun w => (dats m 0 c).arrAt w (cfgs 0).N) 2
  unfold Pipeline.afterTail₀
  generalize Pipeline.withArrays (cfgs 0).spec c (V0 m c) (fun w => (dats m 0 c).arrAt w (cfgs 0).N) = W at *
  rw [← hw]
  show StableHlo.after hostOps1 W (Proc.devRef .tc main_v2) = _
  after_reads_simp
  rfl

/-- The mean at its only index. -/
theorem mean_apply (f : Fin 4 → EReal) (x : FVec Ideal S4x1x1 .f32) (h : ∀ i, x i = f (i 0)) (y : S_.Idx) :
    mean x y = Ideal.div (∑ t : Fin 4, f t) (Ideal.ofBits .f32 1082130432#32) := by
  pointwise [mean]
  refine congrArg (fun s => Ideal.div s (Ideal.ofBits .f32 1082130432#32)) (Finset.sum_congr rfl fun k0 _ => ?_)
  exact (Fintype.sum_unique _).trans ((Fintype.sum_unique _).trans (h _))

/-- THE RUN: the result ends at the mean of the losses, the arguments as they were. -/
theorem run : θ_run defs (onTc (τ := τ) (main (F := Ideal))) ⟨m, fun _ => 0, ρ⟩ (fun r => ∀ c : Dev nD,
      r.2.mem ((c.tc : Thread nD τ).loc main_v2)
        = (fun _ => Ideal.div (∑ t : Fin 4, loss (m ((c.tc : Thread nD τ).loc main_arg0)) (m ((c.tc : Thread nD τ).loc main_arg1)) t) (Ideal.ofBits .f32 1082130432#32))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ⟨?_, h.2 c⟩) (θ_run_and (run_main m ρ) (unchanged m ρ))
  refine ((h.1 c).2 main_v2 (by decide)).trans ((tail_v2 m c).trans ?_)
  rw [final_o]
  funext y
  exact mean_apply _ _ (fun i => rfl) y

end Cert.KernelIdeal.Mean

end
-- ==== Proof.RefRun.lean ====
/-
  The reference's run: its counted scan read off its fold, and the result's buffer at the end.
-/
module

public import proofs.«01_k».proof.Proof.Gen.ReferenceIdeal.Run
public import Idealize.ShloMosaic.Lib.StableHlo.RunRead
public import Idealize.ShloMosaic.Lib.Quiescent
public import Idealize.ShloMosaic.Lib.Claim

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F] [Named F]

/-! ### The values, in the reference's own operations -/

/-- The erosion of a mask: every pixel with its four neighbours, false beyond the border. -/
def erodeV (x : (⟨S4x256x256, .i1⟩ : BufTy).Contents (Elt F)) : (⟨S4x256x256, .i1⟩ : BufTy).Contents (Elt F) :=
  let p : (⟨S4x258x258, .i1⟩ : BufTy).Contents (Elt F) :=
    pad S4x258x258 ![0, 1, 1] ![0, 1, 1] ![0, 0, 0] x (constantI S_ 1 0#1) pads_S4x256x256_S4x258x258_000_110_110 h_S_
  andi (andi (andi (andi (extractStridedSlice S4x256x256 ![0, 1, 1] p slices_S4x258x258_S4x256x256_0_1_1)
    (extractStridedSlice S4x256x256 ![0, 0, 1] p slices_S4x258x258_S4x256x256_0_0_1))
    (extractStridedSlice S4x256x256 ![0, 2, 1] p slices_S4x258x258_S4x256x256_0_2_1))
    (extractStridedSlice S4x256x256 ![0, 1, 0] p slices_S4x258x258_S4x256x256_0_1_0))
    (extractStridedSlice S4x256x256 ![0, 1, 2] p slices_S4x258x258_S4x256x256_0_1_2)

/-- The boundary of a mask. -/
def bdV (x : (⟨S4x256x256, .i1⟩ : BufTy).Contents (Elt F)) : (⟨S4x256x256, .i1⟩ : BufTy).Contents (Elt F) :=
  andi x (noti (erodeV (F := F) x))

/-- The prediction's mask. -/
def pmV (x : (⟨S4x1x256x256, .f32⟩ : BufTy).Contents (Elt F)) : (⟨S4x256x256, .i1⟩ : BufTy).Contents (Elt F) :=
  shapeCast S4x256x256 (cmpf .ogt (Host.divf (broadcastInDim S4x1x256x256 ![] bcast_S_S4x1x256x256 (constant S_ .f32 0x3F800000#32))
    (addf (broadcastInDim S4x1x256x256 ![] bcast_S_S4x1x256x256 (constant S_ .f32 0x3F800000#32)) (Host.exp (Host.negf x))))
    (broadcastInDim S4x1x256x256 ![] bcast_S_S4x1x256x256 (constant S_ .f32 0x3F000000#32))) shapeCasts_S4x1x256x256_S4x256x256

/-- The target's mask. -/
def gmV (x : (⟨S4x1x256x256, .i32⟩ : BufTy).Contents (Elt F)) : (⟨S4x256x256, .i1⟩ : BufTy).Contents (Elt F) :=
  shapeCast S4x256x256 (cmpi .sgt x (broadcastInDim S4x1x256x256 ![] bcast_S_S4x1x256x256 (constantI S_ 32 0#32))) shapeCasts_S4x1x256x256_S4x256x256

/-- What the scan reads: the target's boundary above the prediction's, beside it both with the columns reversed, the columns first. -/
def scanInV (eg ep : (⟨S4x256x256, .i1⟩ : BufTy).Contents (Elt F)) : (⟨S256x16x256, .i1⟩ : BufTy).Contents (Elt F) :=
  let f : (⟨S8x256x256, .i1⟩ : BufTy).Contents (Elt F) := concatenate S8x256x256 0 [⟨S4x256x256, eg⟩, ⟨S4x256x256, ep⟩] concatenates_S4x256x256_S4x256x256_S8x256x256_d0
  transpose S256x16x256 [2, 0, 1] (concatenate S16x256x256 0 [⟨S8x256x256, f⟩, ⟨S8x256x256, Host.reverse [2] f⟩] concatenates_S8x256x256_S8x256x256_S16x256x256_d0)
    transposes_S16x256x256_S256x16x256_2_0_1

/-- The squared distances within the rows, of the scan's result. -/
def rowSqV (d : (⟨S256x16x256, .f32⟩ : BufTy).Contents (Elt F)) : (⟨S8x256x256, .f32⟩ : BufTy).Contents (Elt F) :=
  let r : (⟨S8x256x256, .f32⟩ : BufTy).Contents (Elt F) :=
    minimumf (transpose S8x256x256 [1, 2, 0] (minimumf (extractStridedSlice S256x8x256 ![0, 0, 0] d slices_S256x16x256_S256x8x256_0_0_0)
      (Host.reverse [0] (extractStridedSlice S256x8x256 ![0, 8, 0] d slices_S256x16x256_S256x8x256_0_8_0))) transposes_S256x8x256_S8x256x256_1_2_0)
      (broadcastInDim S8x256x256 ![] bcast_S_S8x256x256 (constant S_ .f32 0x49742400#32))
  mulf r r

/-- The squared row offsets. -/
def offV : (⟨S256x256, .f32⟩ : BufTy).Contents (Elt F) :=
  let ii : (⟨S256, .f32⟩ : BufTy).Contents (Elt F) := sitofp .f32 (iotaInDim S256 32 0)
  let o : (⟨S256x256, .f32⟩ : BufTy).Contents (Elt F) :=
    subf (broadcastInDim S256x256 ![0, 1] bcast_S256x1_S256x256_0_1 (broadcastInDim S256x1 ![0] bcast_S256_S256x1_0 ii))
      (broadcastInDim S256x256 ![0, 1] bcast_S1x256_S256x256_0_1 (broadcastInDim S1x256 ![1] bcast_S256_S1x256_1 ii))
  mulf o o

/-- The distances, of the squared distances within the rows. -/
def distV (q : (⟨S8x256x256, .f32⟩ : BufTy).Contents (Elt F)) : (⟨S8x256x256, .f32⟩ : BufTy).Contents (Elt F) :=
  Host.sqrt (Host.reduce FloatOps.minimumf
    (addf (broadcastInDim S8x256x256x256 ![0, 1, 2, 3] bcast_S8x1x256x256_S8x256x256x256_0_1_2_3
        (broadcastInDim S8x1x256x256 ![0, 2, 3] bcast_S8x256x256_S8x1x256x256_0_2_3 q))
      (broadcastInDim S8x256x256x256 ![0, 1, 2, 3] bcast_S1x256x256x1_S8x256x256x256_0_1_2_3
        (broadcastInDim S1x256x256x1 ![1, 2] bcast_S256x256_S1x256x256x1_1_2 (offV (F := F)))))
    (constant S_ .f32 0x7F800000#32) reducesTo_S8x256x256x256_S8x256x256_d2 h_S_)

/-- The number standing for a distance outside the mask: the sentinel's square. -/
def bigV : (⟨S_, .f32⟩ : BufTy).Contents (Elt F) := mulf (constant S_ .f32 0x49742400#32) (constant S_ .f32 0x49742400#32)

/-- The sorted list of the masked distances. -/
def sortedV (d : (⟨S4x65536, .f32⟩ : BufTy).Contents (Elt F)) (k : (⟨S4x65536, .i1⟩ : BufTy).Contents (Elt F)) : (⟨S4x65536, .f32⟩ : BufTy).Contents (Elt F) :=
  Host.sort S4x65536 1 comparator_f32_d1 (select k d (broadcastInDim S4x65536 ![] bcast_S_S4x65536 (bigV (F := F))))

/-- The position of the percentile. -/
def posV (k : (⟨S4x65536, .i1⟩ : BufTy).Contents (Elt F)) : (⟨S4, .f32⟩ : BufTy).Contents (Elt F) :=
  mulf (broadcastInDim S4 ![] bcast_S_S4 (constant S_ .f32 0x3F733333#32))
    (sitofp .f32 (maxsi (subi (Host.reduce IntOp.addi (extui 32 k natLt_1_32) (constantI S_ 32 0#32) reducesTo_S4x65536_S4_d1 h_S_)
      (broadcastInDim S4 ![] bcast_S_S4 (constantI S_ 32 1#32))) (broadcastInDim S4 ![] bcast_S_S4 (constantI S_ 32 0#32))))

/-- An index kept inside the sorted list. -/
def clipV (i : (⟨S4, .i32⟩ : BufTy).Contents (Elt F)) : (⟨S4, .i32⟩ : BufTy).Contents (Elt F) :=
  minsi (broadcastInDim S4 ![] bcast_S_S4 (id (constantI S_ 32 65535#32))) (maxsi (broadcastInDim S4 ![] bcast_S_S4 (id (constantI S_ 32 0#32))) i)

/-- The list's entry at an index, the index a column. -/
def takeAtV (s : (⟨S4x65536, .f32⟩ : BufTy).Contents (Elt F)) (j : (⟨S4x1, .i32⟩ : BufTy).Contents (Elt F)) : (⟨S4, .f32⟩ : BufTy).Contents (Elt F) :=
  shapeCast S4 (Host.gather gather_S4x65536_S4x1x1_S4x1_n_1_0_0_1_2_11 s
    (shapeCast S4x1x1 (select (cmpi .slt j (broadcastInDim S4x1 ![] bcast_S_S4x1 (constantI S_ 32 0#32)))
      (addi j (broadcastInDim S4x1 ![] bcast_S_S4x1 (constantI S_ 32 65536#32))) j) shapeCasts_S4x1_S4x1x1)) shapeCasts_S4x1_S4

/-- The list's entry at an index. -/
def takeV (s : (⟨S4x65536, .f32⟩ : BufTy).Contents (Elt F)) (i : (⟨S4, .i32⟩ : BufTy).Contents (Elt F)) : (⟨S4, .f32⟩ : BufTy).Contents (Elt F) :=
  takeAtV (F := F) s (broadcastInDim S4x1 ![0] bcast_S4_S4x1_0 i)

/-- The lower index. -/
def loV (k : (⟨S4x65536, .i1⟩ : BufTy).Contents (Elt F)) : (⟨S4, .i32⟩ : BufTy).Contents (Elt F) :=
  clipV (F := F) (fptosi 32 (Host.floor (posV (F := F) k)))

/-- The interpolated percentile of the masked distances. -/
def pctV (d : (⟨S4x65536, .f32⟩ : BufTy).Contents (Elt F)) (k : (⟨S4x65536, .i1⟩ : BufTy).Contents (Elt F)) : (⟨S4, .f32⟩ : BufTy).Contents (Elt F) :=
  let fr : (⟨S4, .f32⟩ : BufTy).Contents (Elt F) := subf (posV (F := F) k) (Host.floor (posV (F := F) k))
  addf (mulf (takeV (F := F) (sortedV d k) (loV (F := F) k)) (subf (broadcastInDim S4 ![] bcast_S_S4 (constant S_ .f32 0x3F800000#32)) fr))
    (mulf (takeV (F := F) (sortedV d k) (clipV (F := F) (addi (loV (F := F) k) (broadcastInDim S4 ![] bcast_S_S4 (constantI S_ 32 1#32))))) fr)

/-- The mean of the larger percentiles. -/
def meanV (a b : (⟨S4, .f32⟩ : BufTy).Contents (Elt F)) : (⟨S_, .f32⟩ : BufTy).Contents (Elt F) :=
  Host.divf (Host.reduceAdd (maximumf a b) (constant S_ .f32 0x00000000#32) reducesTo_S4_S_d0 h_S_) (constant S_ .f32 0x40800000#32)

/-- The distances to the target's boundary, flat. -/
def toGV (q : (⟨S8x256x256, .f32⟩ : BufTy).Contents (Elt F)) : (⟨S4x65536, .f32⟩ : BufTy).Contents (Elt F) :=
  shapeCast S4x65536 (extractStridedSlice S4x256x256 ![0, 0, 0] (distV q) slices_S8x256x256_S4x256x256_0_0_0) shapeCasts_S4x256x256_S4x65536
/-- The distances to the prediction's boundary, flat. -/
def toPV (q : (⟨S8x256x256, .f32⟩ : BufTy).Contents (Elt F)) : (⟨S4x65536, .f32⟩ : BufTy).Contents (Elt F) :=
  shapeCast S4x65536 (extractStridedSlice S4x256x256 ![4, 0, 0] (distV q) slices_S8x256x256_S4x256x256_4_0_0) shapeCasts_S4x256x256_S4x65536
/-- A mask, flat. -/
def flatV (k : (⟨S4x256x256, .i1⟩ : BufTy).Contents (Elt F)) : (⟨S4x65536, .i1⟩ : BufTy).Contents (Elt F) :=
  shapeCast S4x65536 k shapeCasts_S4x256x256_S4x65536

/-- The result, of the boundaries and the scan's result. -/
def resultV (eg ep : (⟨S4x256x256, .i1⟩ : BufTy).Contents (Elt F)) (d : (⟨S256x16x256, .f32⟩ : BufTy).Contents (Elt F)) : (⟨S_, .f32⟩ : BufTy).Contents (Elt F) :=
  meanV (pctV (F := F) (toGV (rowSqV d)) (flatV (F := F) ep)) (pctV (F := F) (toPV (rowSqV d)) (flatV (F := F) eg))

/-! ### The operations after the loop -/

section Post
variable (X : Valuation τ sig (Elt F))

/-- The distances' stretch leaves the flat distances, … -/
theorem postA_v67 : after hostOps0_5 X (no_index (Proc.devRef .tc main_v67)) = toGV (rowSqV (X (Proc.devRef .tc main_v42_3))) := by
  after_reads_simp; rfl
theorem postA_v66 : after hostOps0_5 X (no_index (Proc.devRef .tc main_v66)) = extractStridedSlice S4x256x256 ![4, 0, 0] (distV (rowSqV (X (Proc.devRef .tc main_v42_3)))) slices_S8x256x256_S4x256x256_4_0_0 := by
  after_reads_simp; rfl
theorem postA_v68 : after hostOps0_5 X (no_index (Proc.devRef .tc main_v68)) = flatV (F := F) (X (Proc.devRef .tc main_v23)) := by
  after_reads_simp; rfl
theorem postA_v69 : after hostOps0_5 X (no_index (Proc.devRef .tc main_v69)) = bigV (F := F) := by
  after_reads_simp; rfl
theorem postA_v35 : after hostOps0_5 X (no_index (Proc.devRef .tc main_v35)) = X (Proc.devRef .tc main_v35) := by
  after_reads_simp

/-- The stretches 6 to 7. -/
abbrev postB1 : List (List (HloOp τ sig (Elt F))) := [hostOps0_6, hostOps0_7]

/-- The stretches 8 to 11. -/
abbrev postB2 : List (List (HloOp τ sig (Elt F))) := [hostOps0_8, hostOps0_9]

/-- The stretches 12 to 14. -/
abbrev postB3 : List (List (HloOp τ sig (Elt F))) := [hostOps0_12, hostOps0_13, hostOps0_14]

/-- The stretches 15 to 16. -/
abbrev postB4 : List (List (HloOp τ sig (Elt F))) := [hostOps0_15, hostOps0_16]

/-- What the stretches leave in the buffer v71. -/
theorem postB1_v71 (hc : X (Proc.devRef .tc main_v69) = bigV (F := F)) : afterL postB1 X (no_index (Proc.devRef .tc main_v71)) = sortedV (F := F) (X (Proc.devRef .tc main_v67)) (X (Proc.devRef .tc main_v68)) := by
  simp only [postB1, afterL_cons, afterL_nil]
  after_reads_simp
  rw [hc]
  rfl

/-- The stretches keep the buffer v68. -/
theorem postB1_v68 : afterL postB1 X (no_index (Proc.devRef .tc main_v68)) = X (Proc.devRef .tc main_v68) := by
  simp only [postB1, afterL_cons, afterL_nil]
  after_reads_simp

/-- The stretches keep the buffer v66. -/
theorem postB1_v66 : afterL postB1 X (no_index (Proc.devRef .tc main_v66)) = X (Proc.devRef .tc main_v66) := by
  simp only [postB1, afterL_cons, afterL_nil]
  after_reads_simp

/-- The stretches keep the buffer v66. -/
theorem postB2_v66 : afterL postB2 X (no_index (Proc.devRef .tc main_v66)) = X (Proc.devRef .tc main_v66) := by
  simp only [postB2, afterL_cons, afterL_nil]
  after_reads_simp

/-- The stretches keep the buffer v66. -/
theorem postB3_v66 : afterL postB3 X (no_index (Proc.devRef .tc main_v66)) = X (Proc.devRef .tc main_v66) := by
  simp only [postB3, afterL_cons, afterL_nil]
  after_reads_simp

/-- The stretches keep the buffer v35. -/
theorem postB1_v35 : afterL postB1 X (no_index (Proc.devRef .tc main_v35)) = X (Proc.devRef .tc main_v35) := by
  simp only [postB1, afterL_cons, afterL_nil]
  after_reads_simp

/-- The stretches keep the buffer v35. -/
theorem postB2_v35 : afterL postB2 X (no_index (Proc.devRef .tc main_v35)) = X (Proc.devRef .tc main_v35) := by
  simp only [postB2, afterL_cons, afterL_nil]
  after_reads_simp

/-- The stretches keep the buffer v35. -/
theorem postB3_v35 : afterL postB3 X (no_index (Proc.devRef .tc main_v35)) = X (Proc.devRef .tc main_v35) := by
  simp only [postB3, afterL_cons, afterL_nil]
  after_reads_simp

/-- What the stretches leave in the buffer v80. -/
theorem postB2_v80 : afterL postB2 X (no_index (Proc.devRef .tc main_v80)) = posV (F := F) (X (Proc.devRef .tc main_v68)) := by
  simp only [postB2, afterL_cons, afterL_nil]
  after_reads_simp
  rfl

/-- What the stretches leave in the buffer v83. -/
theorem postB2_v83 : afterL postB2 X (no_index (Proc.devRef .tc main_v83)) = loV (F := F) (X (Proc.devRef .tc main_v68)) := by
  simp only [postB2, afterL_cons, afterL_nil]
  after_reads_simp
  rfl

/-- The stretches hostOps0_10 and hostOps0_11. -/
abbrev postB5 : List (List (HloOp τ sig (Elt F))) := [hostOps0_10, hostOps0_11]

/-- What the stretches leave in the buffer v86. -/
theorem postB5_v86 : afterL postB5 X (no_index (Proc.devRef .tc main_v86)) = clipV (F := F) (addi (X (Proc.devRef .tc main_v83)) (broadcastInDim S4 ![] bcast_S_S4 (constantI S_ 32 1#32))) := by
  simp only [postB5, afterL_cons, afterL_nil]
  after_reads_simp
  rfl

/-- The stretches keep the buffer v80. -/
theorem postB5_v80 : afterL postB5 X (no_index (Proc.devRef .tc main_v80)) = X (Proc.devRef .tc main_v80) := by
  simp only [postB5, afterL_cons, afterL_nil]
  after_reads_simp

/-- The stretches keep the buffer v83. -/
theorem postB5_v83 : afterL postB5 X (no_index (Proc.devRef .tc main_v83)) = X (Proc.devRef .tc main_v83) := by
  simp only [postB5, afterL_cons, afterL_nil]
  after_reads_simp

/-- The stretches keep the buffer v71. -/
theorem postB5_v71 : afterL postB5 X (no_index (Proc.devRef .tc main_v71)) = X (Proc.devRef .tc main_v71) := by
  simp only [postB5, afterL_cons, afterL_nil]
  after_reads_simp

/-- The stretches keep the buffer v66. -/
theorem postB5_v66 : afterL postB5 X (no_index (Proc.devRef .tc main_v66)) = X (Proc.devRef .tc main_v66) := by
  simp only [postB5, afterL_cons, afterL_nil]
  after_reads_simp

/-- The stretches keep the buffer v35. -/
theorem postB5_v35 : afterL postB5 X (no_index (Proc.devRef .tc main_v35)) = X (Proc.devRef .tc main_v35) := by
  simp only [postB5, afterL_cons, afterL_nil]
  after_reads_simp

/-- The stretches keep the buffer v71. -/
theorem postB2_v71 : afterL postB2 X (no_index (Proc.devRef .tc main_v71)) = X (Proc.devRef .tc main_v71) := by
  simp only [postB2, afterL_cons, afterL_nil]
  after_reads_simp

/-- What the stretches leave in the buffer v88. -/
theorem postB3_v88 : afterL postB3 X (no_index (Proc.devRef .tc main_v88)) = subf (X (Proc.devRef .tc main_v80)) (Host.floor (X (Proc.devRef .tc main_v80))) := by
  simp only [postB3, afterL_cons, afterL_nil]
  after_reads_simp

/-- What the stretches leave in the buffer v91. -/
theorem postB3_v91 : afterL postB3 X (no_index (Proc.devRef .tc main_v91)) = takeV (F := F) (X (Proc.devRef .tc main_v71)) (X (Proc.devRef .tc main_v83)) := by
  simp only [postB3, afterL_cons, afterL_nil]
  after_reads_simp
  rfl

/-- What the stretches leave in the buffer v92. -/
theorem postB3_v92 : afterL postB3 X (no_index (Proc.devRef .tc main_v92)) = broadcastInDim S4x1 ![0] bcast_S4_S4x1_0 (X (Proc.devRef .tc main_v86)) := by
  simp only [postB3, afterL_cons, afterL_nil]
  after_reads_simp

/-- The stretches keep the buffer v71. -/
theorem postB3_v71 : afterL postB3 X (no_index (Proc.devRef .tc main_v71)) = X (Proc.devRef .tc main_v71) := by
  simp only [postB3, afterL_cons, afterL_nil]
  after_reads_simp

/-- What the stretches leave in the buffer v99. -/
theorem postB4_v99 : afterL postB4 X (no_index (Proc.devRef .tc main_v99)) = addf (mulf (X (Proc.devRef .tc main_v91)) (subf (broadcastInDim S4 ![] bcast_S_S4 (constant S_ .f32 0x3F800000#32)) (X (Proc.devRef .tc main_v88)))) (mulf (takeAtV (F := F) (X (Proc.devRef .tc main_v71)) (X (Proc.devRef .tc main_v92))) (X (Proc.devRef .tc main_v88))) := by
  simp only [postB4, afterL_cons, afterL_nil]
  after_reads_simp
  rfl

/-- What the stretches leave in the buffer v100. -/
theorem postB4_v100 : afterL postB4 X (no_index (Proc.devRef .tc main_v100)) = shapeCast S4x65536 (X (Proc.devRef .tc main_v66)) shapeCasts_S4x256x256_S4x65536 := by
  simp only [postB4, afterL_cons, afterL_nil]
  after_reads_simp
  rfl

/-- What the stretches leave in the buffer v101. -/
theorem postB4_v101 : afterL postB4 X (no_index (Proc.devRef .tc main_v101)) = flatV (F := F) (X (Proc.devRef .tc main_v35)) := by
  simp only [postB4, afterL_cons, afterL_nil]
  after_reads_simp
  rfl

/-- The number standing for a distance outside the mask, again. -/
theorem postB4_v102 : afterL postB4 X (no_index (Proc.devRef .tc main_v102)) = bigV (F := F) := by
  simp only [postB4, afterL_cons, afterL_nil]
  after_reads_simp
  rfl

/-- The stretches 17 to 18. -/
abbrev postC1 : List (List (HloOp τ sig (Elt F))) := [hostOps0_17, hostOps0_18]

/-- The stretches 19 to 22. -/
abbrev postC2 : List (List (HloOp τ sig (Elt F))) := [hostOps0_19, hostOps0_20]

/-- The stretches 23 to 25. -/
abbrev postC3 : List (List (HloOp τ sig (Elt F))) := [hostOps0_23, hostOps0_24, hostOps0_25]

/-- The stretches 26 to 27. -/
abbrev postC4 : List (List (HloOp τ sig (Elt F))) := [hostOps0_26, hostOps0_27]

/-- What the stretches leave in the buffer v104. -/
theorem postC1_v104 (hc : X (Proc.devRef .tc main_v102) = bigV (F := F)) : afterL postC1 X (no_index (Proc.devRef .tc main_v104)) = sortedV (F := F) (X (Proc.devRef .tc main_v100)) (X (Proc.devRef .tc main_v101)) := by
  simp only [postC1, afterL_cons, afterL_nil]
  after_reads_simp
  rw [hc]
  rfl

/-- The stretches keep the buffer v101. -/
theorem postC1_v101 : afterL postC1 X (no_index (Proc.devRef .tc main_v101)) = X (Proc.devRef .tc main_v101) := by
  simp only [postC1, afterL_cons, afterL_nil]
  after_reads_simp

/-- The stretches keep the buffer v99. -/
theorem postC1_v99 : afterL postC1 X (no_index (Proc.devRef .tc main_v99)) = X (Proc.devRef .tc main_v99) := by
  simp only [postC1, afterL_cons, afterL_nil]
  after_reads_simp

/-- The stretches keep the buffer v99. -/
theorem postC2_v99 : afterL postC2 X (no_index (Proc.devRef .tc main_v99)) = X (Proc.devRef .tc main_v99) := by
  simp only [postC2, afterL_cons, afterL_nil]
  after_reads_simp

/-- The stretches keep the buffer v99. -/
theorem postC3_v99 : afterL postC3 X (no_index (Proc.devRef .tc main_v99)) = X (Proc.devRef .tc main_v99) := by
  simp only [postC3, afterL_cons, afterL_nil]
  after_reads_simp

/-- What the stretches leave in the buffer v113. -/
theorem postC2_v113 : afterL postC2 X (no_index (Proc.devRef .tc main_v113)) = posV (F := F) (X (Proc.devRef .tc main_v101)) := by
  simp only [postC2, afterL_cons, afterL_nil]
  after_reads_simp
  rfl

/-- What the stretches leave in the buffer v116. -/
theorem postC2_v116 : afterL postC2 X (no_index (Proc.devRef .tc main_v116)) = loV (F := F) (X (Proc.devRef .tc main_v101)) := by
  simp only [postC2, afterL_cons, afterL_nil]
  after_reads_simp
  rfl

/-- The stretches hostOps0_21 and hostOps0_22. -/
abbrev postC5 : List (List (HloOp τ sig (Elt F))) := [hostOps0_21, hostOps0_22]

/-- What the stretches leave in the buffer v119. -/
theorem postC5_v119 : afterL postC5 X (no_index (Proc.devRef .tc main_v119)) = clipV (F := F) (addi (X (Proc.devRef .tc main_v116)) (broadcastInDim S4 ![] bcast_S_S4 (constantI S_ 32 1#32))) := by
  simp only [postC5, afterL_cons, afterL_nil]
  after_reads_simp
  rfl

/-- The stretches keep the buffer v113. -/
theorem postC5_v113 : afterL postC5 X (no_index (Proc.devRef .tc main_v113)) = X (Proc.devRef .tc main_v113) := by
  simp only [postC5, afterL_cons, afterL_nil]
  after_reads_simp

/-- The stretches keep the buffer v116. -/
theorem postC5_v116 : afterL postC5 X (no_index (Proc.devRef .tc main_v116)) = X (Proc.devRef .tc main_v116) := by
  simp only [postC5, afterL_cons, afterL_nil]
  after_reads_simp

/-- The stretches keep the buffer v104. -/
theorem postC5_v104 : afterL postC5 X (no_index (Proc.devRef .tc main_v104)) = X (Proc.devRef .tc main_v104) := by
  simp only [postC5, afterL_cons, afterL_nil]
  after_reads_simp

/-- The stretches keep the buffer v99. -/
theorem postC5_v99 : afterL postC5 X (no_index (Proc.devRef .tc main_v99)) = X (Proc.devRef .tc main_v99) := by
  simp only [postC5, afterL_cons, afterL_nil]
  after_reads_simp

/-- The stretches keep the buffer v104. -/
theorem postC2_v104 : afterL postC2 X (no_index (Proc.devRef .tc main_v104)) = X (Proc.devRef .tc main_v104) := by
  simp only [postC2, afterL_cons, afterL_nil]
  after_reads_simp

/-- What the stretches leave in the buffer v121. -/
theorem postC3_v121 : afterL postC3 X (no_index (Proc.devRef .tc main_v121)) = subf (X (Proc.devRef .tc main_v113)) (Host.floor (X (Proc.devRef .tc main_v113))) := by
  simp only [postC3, afterL_cons, afterL_nil]
  after_reads_simp

/-- What the stretches leave in the buffer v124. -/
theorem postC3_v124 : afterL postC3 X (no_index (Proc.devRef .tc main_v124)) = takeV (F := F) (X (Proc.devRef .tc main_v104)) (X (Proc.devRef .tc main_v116)) := by
  simp only [postC3, afterL_cons, afterL_nil]
  after_reads_simp
  rfl

/-- What the stretches leave in the buffer v125. -/
theorem postC3_v125 : afterL postC3 X (no_index (Proc.devRef .tc main_v125)) = broadcastInDim S4x1 ![0] bcast_S4_S4x1_0 (X (Proc.devRef .tc main_v119)) := by
  simp only [postC3, afterL_cons, afterL_nil]
  after_reads_simp

/-- The stretches keep the buffer v104. -/
theorem postC3_v104 : afterL postC3 X (no_index (Proc.devRef .tc main_v104)) = X (Proc.devRef .tc main_v104) := by
  simp only [postC3, afterL_cons, afterL_nil]
  after_reads_simp

/-- What the stretches leave in the buffer v135. -/
theorem postC4_v135 : afterL postC4 X (no_index (Proc.devRef .tc main_v135)) = meanV (F := F) (X (Proc.devRef .tc main_v99)) (addf (mulf (X (Proc.devRef .tc main_v124)) (subf (broadcastInDim S4 ![] bcast_S_S4 (constant S_ .f32 0x3F800000#32)) (X (Proc.devRef .tc main_v121)))) (mulf (takeAtV (F := F) (X (Proc.devRef .tc main_v104)) (X (Proc.devRef .tc main_v125))) (X (Proc.devRef .tc main_v121)))) := by
  simp only [postC4, afterL_cons, afterL_nil]
  after_reads_simp
  rfl

/-- The result after the loop. -/
theorem post_v135 : afterL postI X (Proc.devRef .tc main_v135)
    = resultV (F := F) (X (Proc.devRef .tc main_v35)) (X (Proc.devRef .tc main_v23)) (X (Proc.devRef .tc main_v42_3)) := by
  rw [show afterL postI X = afterL postC4 (afterL postC3 (afterL postC5 (afterL postC2 (afterL postC1
      (afterL postB4 (afterL postB3 (afterL postB5 (afterL postB2 (afterL postB1 (after hostOps0_5 X)))))))))) from rfl,
    postC4_v135, postC3_v99, postC5_v99, postC2_v99, postC1_v99, postC3_v124, postC3_v121, postC3_v125, postC3_v104, postC5_v104, postC5_v113, postC5_v116, postC5_v119,
    postC2_v104, postC2_v113, postC2_v116, postC1_v104 _ (postB4_v102 _), postC1_v101, postB4_v99, postB4_v100, postB4_v101,
    postB3_v91, postB3_v88, postB3_v92, postB3_v71, postB5_v71, postB5_v80, postB5_v83, postB5_v86, postB2_v71, postB2_v80, postB2_v83, postB1_v71 _ (postA_v69 X), postB1_v68,
    postB3_v66, postB5_v66, postB2_v66, postB1_v66, postB3_v35, postB5_v35, postB2_v35, postB1_v35, postA_v67, postA_v68, postA_v66, postA_v35]
  rfl
theorem post_arg0 : afterL postI X (Proc.devRef .tc main_arg0) = X (Proc.devRef .tc main_arg0) := by
  simp only [postI, afterL_cons, afterL_nil]
  after_reads_simp
theorem post_arg1 : afterL postI X (Proc.devRef .tc main_arg1) = X (Proc.devRef .tc main_arg1) := by
  simp only [postI, afterL_cons, afterL_nil]
  after_reads_simp

end Post

variable (m : (ℓ : Loc nD τ sig) → Buf (Elt F) ℓ) (ρ : Dev nD → PrngReg)

/-! ### Before and in the loop -/

/-- The prediction's boundary before the scan. -/
theorem entry_v23 (c : Dev nD) : entryContents preI m c (Proc.devRef .tc main_v23) = bdV (F := F) (pmV (m ((c.tc : Thread nD τ).loc main_arg0))) := by
  simp only [entryContents, afterL_cons, afterL_nil]
  after_reads_simp
  rfl
/-- The target's boundary before the scan. -/
theorem entry_v35 (c : Dev nD) : entryContents preI m c (Proc.devRef .tc main_v35) = bdV (F := F) (gmV (F := F) (m ((c.tc : Thread nD τ).loc main_arg1))) := by
  simp only [entryContents, afterL_cons, afterL_nil]
  after_reads_simp
  rfl
/-- The last operations before the scan: what it reads, … -/
theorem tail_v42_0 (X : Valuation τ sig (Elt F)) : after ((hostOps0_4 (F := F)).drop 11) X (no_index (Proc.devRef .tc main_v42_0))
    = scanInV (F := F) (X (Proc.devRef .tc main_v35)) (X (Proc.devRef .tc main_v23)) := by
  simp only [hostOps0_4, List.drop_succ_cons, List.drop_zero]
  after_reads_simp
  rfl
/-- … from the boundaries, which they keep. -/
theorem tail_v35 (X : Valuation τ sig (Elt F)) : after ((hostOps0_4 (F := F)).drop 11) X (no_index (Proc.devRef .tc main_v35)) = X (Proc.devRef .tc main_v35) := by
  simp only [hostOps0_4, List.drop_succ_cons, List.drop_zero]
  after_reads_simp
/-- The other boundary is kept as well. -/
theorem tail_v23 (X : Valuation τ sig (Elt F)) : after ((hostOps0_4 (F := F)).drop 11) X (no_index (Proc.devRef .tc main_v23)) = X (Proc.devRef .tc main_v23) := by
  simp only [hostOps0_4, List.drop_succ_cons, List.drop_zero]
  after_reads_simp
/-- What the scan reads. -/
theorem entry_v42_0 (c : Dev nD) : entryContents preI m c (Proc.devRef .tc main_v42_0)
    = scanInV (F := F) (bdV (F := F) (gmV (F := F) (m ((c.tc : Thread nD τ).loc main_arg1)))) (bdV (F := F) (pmV (m ((c.tc : Thread nD τ).loc main_arg0)))) := by
  have h35 := entry_v35 m c
  have h23 := entry_v23 m c
  have hs : entryContents preI m c = after ((hostOps0_4 (F := F)).drop 11) (after ((hostOps0_4 (F := F)).take 11)
      (afterL [hostOps0, hostOps0_1, hostOps0_2, hostOps0_3] (launchContents m c))) := by
    rw [← after_append, List.take_append_drop]
    rfl
  rw [hs, tail_v35] at h35
  rw [hs, tail_v23] at h23
  rw [hs, tail_v42_0, h35, h23]
/-- The scan starts at the sentinel, … -/
theorem entry_v42_2 (c : Dev nD) : entryContents preI m c (Proc.devRef .tc main_v42_2)
    = broadcastInDim S16x256 ![] bcast_S_S16x256 (constant S_ .f32 0x49742400#32) := by
  simp only [entryContents, afterL_cons, afterL_nil]
  after_reads_simp
  rfl
/-- … with the counter at zero. -/
theorem entry_v42_1 (c : Dev nD) : entryContents preI m c (Proc.devRef .tc main_v42_1) = fun _ => (0#32 : BitVec 32) := ctr_entry m c
theorem entry_arg0 (c : Dev nD) : entryContents preI m c (Proc.devRef .tc main_arg0) = m ((c.tc : Thread nD τ).loc main_arg0) := by
  simp only [entryContents, afterL_cons, afterL_nil]
  after_reads_simp
theorem entry_arg1 (c : Dev nD) : entryContents preI m c (Proc.devRef .tc main_arg1) = m ((c.tc : Thread nD τ).loc main_arg1) := by
  simp only [entryContents, afterL_cons, afterL_nil]
  after_reads_simp

/-- A trip keeps what it does not write. -/
theorem trip_keep (X : Valuation τ sig (Elt F)) (r : Ref sig .tc) (h0 : r ∉ while0Ops0_W) (h1 : r ∉ while0Ops0_1_W) (h2 : r ∉ while0Ops0_2_W)
    (h3 : r ∉ while0Ops0_3_W) (h4 : r ∉ while0Ops0_4_W) (hc : r ∉ condOps_W) :
    afterL bodyI (after condOps X) (Proc.devRef .tc r) = X (Proc.devRef .tc r) := by
  simp only [bodyI, afterL_cons, afterL_nil]
  rw [after_of_writes_sub while0Ops0_4 _ while0Ops0_4_writes h4, after_of_writes_sub while0Ops0_3 _ while0Ops0_3_writes h3,
    after_of_writes_sub while0Ops0_2 _ while0Ops0_2_writes h2, after_of_writes_sub while0Ops0_1 _ while0Ops0_1_writes h1,
    after_of_writes_sub while0Ops0 _ while0Ops0_writes h0, after_of_writes_sub condOps _ condOps_writes hc]
/-- So the loop keeps it. -/
theorem loop_keep (c : Dev nD) (r : Ref sig .tc) (h0 : r ∉ while0Ops0_W) (h1 : r ∉ while0Ops0_1_W) (h2 : r ∉ while0Ops0_2_W)
    (h3 : r ∉ while0Ops0_3_W) (h4 : r ∉ while0Ops0_4_W) (hc : r ∉ condOps_W) (k : ℕ) :
    after condOps (atK m k c) (Proc.devRef .tc r) = entryContents preI m c (Proc.devRef .tc r) := by
  rw [after_of_writes_sub condOps _ condOps_writes hc]
  induction k with
  | zero => rfl
  | succ k ih => exact (trip_keep (atK m k c) r h0 h1 h2 h3 h4 hc).trans ih

/-- The scan's step at position `n`: the row carried, and the stack with the row set. -/
def scanStep (f : (⟨S256x16x256, .i1⟩ : BufTy).Contents (Elt F)) (n : ℕ)
    (s : (⟨S16x256, .f32⟩ : BufTy).Contents (Elt F) × (⟨S256x16x256, .f32⟩ : BufTy).Contents (Elt F)) :
    (⟨S16x256, .f32⟩ : BufTy).Contents (Elt F) × (⟨S256x16x256, .f32⟩ : BufTy).Contents (Elt F) :=
  let at' : Fin 3 → ℤ := fun k => (((![fun _ => Scf.iv 0#32 1#32 n, constantI S_ 32 0#32, constantI S_ 32 0#32] : Fin 3 → (⟨S_, .i32⟩ : BufTy).Contents (Elt F))) k (Shape.Idx.first h_S_)).toInt
  let d : (⟨S16x256, .f32⟩ : BufTy).Contents (Elt F) :=
    select (shapeCast S16x256 (Host.dynamicSlice S1x16x256 f at' sliceFits_S256x16x256_S1x16x256) shapeCasts_S1x16x256_S16x256)
      (broadcastInDim S16x256 ![] bcast_S_S16x256 (id (constant S_ .f32 0x00000000#32)))
      (addf s.1 (broadcastInDim S16x256 ![] bcast_S_S16x256 (constant S_ .f32 0x3F800000#32)))
  (d, Host.dynamicUpdateSlice s.2 (broadcastInDim S1x16x256 ![1, 2] bcast_S16x256_S1x16x256_1_2 d) at' updateFits_S256x16x256_S1x16x256)

/-- The scan's first `n` steps. -/
def scanV (f : (⟨S256x16x256, .i1⟩ : BufTy).Contents (Elt F))
    (s : (⟨S16x256, .f32⟩ : BufTy).Contents (Elt F) × (⟨S256x16x256, .f32⟩ : BufTy).Contents (Elt F)) :
    ℕ → (⟨S16x256, .f32⟩ : BufTy).Contents (Elt F) × (⟨S256x16x256, .f32⟩ : BufTy).Contents (Elt F)
  | 0 => s
  | n + 1 => scanStep (F := F) f n (scanV f s n)

/-- The loop's buffers are the scan's. -/
theorem atK_scan (c : Dev nD) (k : ℕ) :
    atK m k c (Proc.devRef .tc main_v42_0) = entryContents preI m c (Proc.devRef .tc main_v42_0)
    ∧ (atK m k c (Proc.devRef .tc main_v42_2), atK m k c (Proc.devRef .tc main_v42_3))
      = scanV (F := F) (entryContents preI m c (Proc.devRef .tc main_v42_0))
          (entryContents preI m c (Proc.devRef .tc main_v42_2), entryContents preI m c (Proc.devRef .tc main_v42_3)) k := by
  induction k with
  | zero => exact ⟨rfl, rfl⟩
  | succ k ih =>
    obtain ⟨h0, h⟩ := ih
    have h1 := atK_ctr m c k
    have ha := trip_agree (atK m k c)
    refine ⟨((ha main_v42_0 (by decide)).trans (STEP_main_v42_0 _)).trans h0, ?_⟩
    rw [show atK m (k + 1) c (Proc.devRef .tc main_v42_2) = _ from (ha main_v42_2 (by decide)).trans (STEP_main_v42_2 _),
      show atK m (k + 1) c (Proc.devRef .tc main_v42_3) = _ from (ha main_v42_3 (by decide)).trans (STEP_main_v42_3 _)]
    show _ = scanStep (F := F) _ k (scanV (F := F) _ _ k)
    rw [← h, ← h0]
    unfold step_main_v42_2 step_main_v42_3 res_main_while0b_v139
    rw [h1]
    rfl

/-- The reference's result, of its arguments and what the stack holds at the start. -/
def refV (a0 : (⟨S4x1x256x256, .f32⟩ : BufTy).Contents (Elt F)) (a1 : (⟨S4x1x256x256, .i32⟩ : BufTy).Contents (Elt F)) (j : (⟨S256x16x256, .f32⟩ : BufTy).Contents (Elt F)) : (⟨S_, .f32⟩ : BufTy).Contents (Elt F) :=
  resultV (F := F) (bdV (F := F) (gmV (F := F) a1)) (bdV (F := F) (pmV a0))
    (scanV (F := F) (scanInV (F := F) (bdV (F := F) (gmV (F := F) a1)) (bdV (F := F) (pmV a0)))
      (broadcastInDim S16x256 ![] bcast_S_S16x256 (constant S_ .f32 0x49742400#32), j) 256).2

/-- THE RUN: the result's buffer ends at the reference's value, the arguments' as they were. -/
theorem run : θ_run (defs (F := F)) (onTc (τ := τ) (main (F := F))) ⟨m, fun _ => 0, ρ⟩ (fun r => ∀ c : Dev nD,
    (∃ j, r.2.mem ((c.tc : Thread nD τ).loc main_v135) = refV (F := F) (m ((c.tc : Thread nD τ).loc main_arg0)) (m ((c.tc : Thread nD τ).loc main_arg1)) j)
    ∧ r.2.mem ((c.tc : Thread nD τ).loc main_arg0) = m ((c.tc : Thread nD τ).loc main_arg0)
    ∧ r.2.mem ((c.tc : Thread nD τ).loc main_arg1) = m ((c.tc : Thread nD τ).loc main_arg1)) := by
  refine (θ_run (defs (F := F)) _ _).mono (fun r h c => ⟨⟨entryContents preI m c (Proc.devRef .tc main_v42_3), ?_⟩, ?_, ?_⟩) (run_fold m ρ)
  · rw [h c main_v135 rfl, finalContents, post_v135, loop_keep m c main_v35 (by decide) (by decide) (by decide) (by decide) (by decide) (by decide),
      loop_keep m c main_v23 (by decide) (by decide) (by decide) (by decide) (by decide) (by decide), entry_v35, entry_v23,
      after_of_writes_sub condOps _ condOps_writes (r := main_v42_3) (by decide)]
    have hs := (atK_scan m c 256).2
    rw [entry_v42_0, entry_v42_2] at hs
    have h3 := congrArg Prod.snd hs
    rw [refV, ← h3]
  · rw [h c main_arg0 rfl, finalContents, post_arg0, loop_keep m c main_arg0 (by decide) (by decide) (by decide) (by decide) (by decide) (by decide), entry_arg0]
  · rw [h c main_arg1 rfl, finalContents, post_arg1, loop_keep m c main_arg1 (by decide) (by decide) (by decide) (by decide) (by decide) (by decide), entry_arg1]

/-- The frame: the arguments end unchanged, and the program has no semaphore. -/
theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run (defs (F := F)) _ _).mono (fun r h => ⟨fun c => (h c).2, sem_eq_zero_of_no_sems (by decide) _⟩) (run m ρ)

end Cert.ReferenceIdeal.Read

end
-- ==== Proof.RefVal.lean ====
/-
  The reference's boundary masks and distances at the extended reals are those of `Spec`.
-/
module

public import proofs.«01_k».proof.Proof.RefRun
public import proofs.«01_k».proof.Proof.Spec
public import proofs.«01_k».proof.Proof.Consts
public import Idealize.ShloMosaic.Lib.DynamicIndex

@[expose] public section

set_option maxRecDepth 16384

noncomputable section

namespace Cert.ReferenceIdeal.Val

open Cert.ReferenceIdeal Cert.ReferenceIdeal.Gen Cert.ReferenceIdeal.Read
open Idealize.ShloMosaic
open Hd

/-! ## Masks -/

/-- A stack of four masks, as bits. -/
def IsB (v : IVec S4x256x256 1) (M : Fin 4 → Mask) : Prop := ∀ t i j, v (ix3 t i j) = BitVec.ofBool (M t i j)

/-- The target's masks. -/
def gmR (a : IVec S4x1x256x256 32) (t : Fin 4) : Mask := fun i j => decide (IntOp.cmpi .sgt (a (ix4 t 0 i j)) 0#32 = 1#1)
/-- The prediction's masks. -/
def pmR (a : FVec Ideal S4x1x256x256 .f32) (t : Fin 4) : Mask := fun i j => decide (FloatOps.cmpf (F := Ideal) (φ := .f32) .ogt (Ideal.logistic (a (ix4 t 0 i j))) (Ideal.ofBits .f32 0x3F000000#32) = 1#1)

/-- A bit is the truth value of its being one. -/
theorem ofBool_bit (b : BitVec 1) : b = BitVec.ofBool (decide (b = 1#1)) := by
  rcases BitVec.eq_zero_or_eq_one b with h | h <;> subst h <;> rfl

/-- The bits of the target's masks. -/
theorem gmV_bits (a : IVec S4x1x256x256 32) : IsB (gmV (F := Ideal) a) (gmR a) := fun t i j => by
  pointwise [gmV]
  exact ofBool_bit _

/-- The bits of the prediction's masks. -/
theorem pmV_bits (a : FVec Ideal S4x1x256x256 .f32) : IsB (pmV (F := Ideal) a) (pmR a) := fun t i j => by
  pointwise [pmV]
  exact ofBool_bit _

/-- The bit of a conjunction. -/
theorem andi_ofBool (a b : Bool) : IntOp.andi (BitVec.ofBool a) (BitVec.ofBool b) = BitVec.ofBool (a && b) := by
  cases a <;> cases b <;> rfl
/-- The bit of a negation. -/
theorem not_ofBool (a : Bool) : ~~~ BitVec.ofBool a = BitVec.ofBool !a := by cases a <;> rfl

/-- The bits of the boundaries. -/
theorem bdV_bits (v : IVec S4x256x256 1) (M : Fin 4 → Mask) (h : IsB v M) : IsB (bdV (F := Ideal) v) (fun t => bd (M t)) := fun t i j => by
  have h0 : ∀ t i j, v (ix3 t i j) = BitVec.ofBool (M t i j) := h
  have ha : (if h' : 1 ≤ i.val ∧ i.val - 1 < 256 then v (ix3 t ⟨i.val - 1, h'.2⟩ j) else 0#1) = BitVec.ofBool (above (M t) i j) := by
    unfold above
    by_cases c : i.val < 1
    · rw [dif_neg (by omega), if_pos c]; rfl
    · rw [dif_pos (by omega), if_neg c, h0]
  have hb : (if h' : 1 ≤ 2 + i.val ∧ 2 + i.val - 1 < 256 then v (ix3 t ⟨2 + i.val - 1, h'.2⟩ j) else 0#1) = BitVec.ofBool (below (M t) i j) := by
    unfold below
    by_cases c : i.val < 255
    · rw [dif_pos (by omega), dif_pos c, h0]; congr 3; omega
    · rw [dif_neg (by omega), dif_neg c]; rfl
  have hl : (if h' : 1 ≤ j.val ∧ j.val - 1 < 256 then v (ix3 t i ⟨j.val - 1, h'.2⟩) else 0#1) = BitVec.ofBool (left (M t) i j) := by
    unfold left
    by_cases c : j.val < 1
    · rw [dif_neg (by omega), if_pos c]; rfl
    · rw [dif_pos (by omega), if_neg c, h0]
  have hr : (if h' : 1 ≤ 2 + j.val ∧ 2 + j.val - 1 < 256 then v (ix3 t i ⟨2 + j.val - 1, h'.2⟩) else 0#1) = BitVec.ofBool (right (M t) i j) := by
    unfold right
    by_cases c : j.val < 255
    · rw [dif_pos (by omega), dif_pos c, h0]; congr 3; omega
    · rw [dif_neg (by omega), dif_neg c]; rfl
  pointwise [bdV, erodeV]
  rw [ha, hb, hl, hr, h0]
  simp only [andi_ofBool, not_ofBool, bd]
  congr 1
  generalize M t i j = a
  generalize above (M t) i j = b
  generalize below (M t) i j = c
  generalize left (M t) i j = d
  generalize right (M t) i j = e
  revert a b c d e
  decide

/-- The eight masks the scan reads: the targets' and the predictions'. -/
def X8 (G P : Fin 4 → Mask) (t : Fin 8) : Mask := if h : t.val < 4 then G ⟨t.val, h⟩ else P ⟨t.val - 4, by omega⟩

/-- What the scan reads, forward. -/
theorem scanIn_fwd (eg ep : IVec S4x256x256 1) (G P : Fin 4 → Mask) (hg : IsB eg G) (hp : IsB ep P) (t : Fin 8) (i k : Fin 256) :
    scanInV (F := Ideal) eg ep (ix3 k ⟨t.val, by omega⟩ i) = BitVec.ofBool (X8 G P t i k) := by
  have hg' : ∀ t i j, eg (ix3 t i j) = BitVec.ofBool (G t i j) := hg
  have hp' : ∀ t i j, ep (ix3 t i j) = BitVec.ofBool (P t i j) := hp
  pointwise [scanInV]
  unfold X8
  by_cases c : t.val < 4
  · exact (dif_pos c).trans ((hg' _ _ _).trans (by rw [dif_pos c]))
  · exact (dif_neg c).trans ((hp' _ _ _).trans (by rw [dif_neg c]))

/-- What the scan reads, backward. -/
theorem scanIn_bwd (eg ep : IVec S4x256x256 1) (G P : Fin 4 → Mask) (hg : IsB eg G) (hp : IsB ep P) (t : Fin 8) (i k : Fin 256) :
    scanInV (F := Ideal) eg ep (ix3 k ⟨8 + t.val, by omega⟩ i) = BitVec.ofBool (X8 G P t i k.rev) := by
  have hg' : ∀ t i j, eg (ix3 t i j) = BitVec.ofBool (G t i j) := hg
  have hp' : ∀ t i j, ep (ix3 t i j) = BitVec.ofBool (P t i j) := hp
  pointwise [scanInV]
  unfold X8
  by_cases c : t.val < 4
  · exact (dif_pos c).trans ((hg' _ _ _).trans (by rw [dif_pos c]; rfl))
  · exact (dif_neg c).trans ((hp' _ _ _).trans (by rw [dif_neg c]; rfl))

/-! ## The scan -/

/-- What the scan reads of one row, as Booleans. -/
def bits (f : IVec S256x16x256 1) (t : Fin 16) (i : Fin 256) (n : ℕ) : Bool := if h : n < 256 then decide (f (ix3 ⟨n, h⟩ t i) = 1#1) else false

/-- The start of a window. -/
theorem starts (n : ℕ) (hn : n < 256) (a : Fin 3) :
    (((![fun _ => Scf.iv 0#32 1#32 n, constantI S_ 32 0#32, constantI S_ 32 0#32] : Fin 3 → IVec S_ 32)) a (Shape.Idx.first h_S_)).toInt = ((![n, 0, 0] : Fin 3 → ℕ) a : ℤ) := by
  match a with
  | 0 =>
    show (Scf.iv 0#32 1#32 n).toInt = (n : ℤ)
    rw [show Scf.iv 0#32 1#32 n = BitVec.ofNat 32 n from by unfold Scf.iv; simp, toInt_nat n (by omega)]
  | 1 => rfl
  | 2 => rfl

/-- A column read. -/
theorem read_col {α : Type} (f : S256x16x256.Idx → α) (start : Fin 3 → ℤ) (n : ℕ) (hn : n < 256) (hs : ∀ a, start a = ((![n, 0, 0] : Fin 3 → ℕ) a : ℤ)) (t : Fin 16) (i : Fin 256) :
    Host.dynamicSlice S1x16x256 f start sliceFits_S256x16x256_S1x16x256 (ix3 0 t i) = f (ix3 ⟨n, hn⟩ t i) := by
  rw [Host.dynamicSlice_eq_extractStridedSlice S1x16x256 f start ![n, 0, 0] sliceFits_S256x16x256_S1x16x256
    ⟨rfl, fun a => by match a with | 0 => show n + 1 ≤ 256; omega | 1 => show 0 + 16 ≤ 16; omega | 2 => show 0 + 256 ≤ 256; omega⟩ hs]
  pointwise []

/-- A column written. -/
theorem write_col {α : Type} (f : S256x16x256.Idx → α) (u : S1x16x256.Idx → α) (start : Fin 3 → ℤ) (n : ℕ) (hn : n < 256) (hs : ∀ a, start a = ((![n, 0, 0] : Fin 3 → ℕ) a : ℤ)) (k : Fin 256) (t : Fin 16) (i : Fin 256) :
    Host.dynamicUpdateSlice f u start updateFits_S256x16x256_S1x16x256 (ix3 k t i) = if k.val = n then u (ix3 0 t i) else f (ix3 k t i) := by
  have c0 := Host.clampedStart_of_le (s := S256x16x256) (t := S1x16x256) updateFits_S256x16x256_S1x16x256.1 start 0 n (hs 0) (by show n + 1 ≤ 256; omega)
  have c1 := Host.clampedStart_of_le (s := S256x16x256) (t := S1x16x256) updateFits_S256x16x256_S1x16x256.1 start 1 0 (hs 1) (by decide)
  have c2 := Host.clampedStart_of_le (s := S256x16x256) (t := S1x16x256) updateFits_S256x16x256_S1x16x256.1 start 2 0 (hs 2) (by decide)
  rw [Host.dynamicUpdateSlice_apply]
  by_cases c : k.val = n
  · rw [if_pos c, dif_pos]
    · congr 1
      funext b
      apply Fin.ext
      match b with
      | 0 => show k.val - Host.clampedStart _ _ _ _ _ = 0; erw [c0]; omega
      | 1 => show t.val - Host.clampedStart _ _ _ _ _ = t.val; erw [c1]; omega
      | 2 => show i.val - Host.clampedStart _ _ _ _ _ = i.val; erw [c2]; omega
    · intro b
      match b with
      | 0 => erw [c0]; show n ≤ k.val ∧ k.val < n + 1; omega
      | 1 => erw [c1]; show 0 ≤ t.val ∧ t.val < 0 + 16; omega
      | 2 => erw [c2]; show 0 ≤ i.val ∧ i.val < 0 + 256; omega
  · rw [if_neg c, dif_neg]
    intro h
    have h0 := h 0
    erw [c0] at h0
    have h1 : n ≤ k.val ∧ k.val < n + 1 := h0
    omega

/-- A row, where the read column is `w` and the row before is `r`. -/
theorem row_of (w : IVec S1x16x256 1) (r : FVec Ideal S16x256 .f32) (t : Fin 16) (i : Fin 256) :
    select (shapeCast S16x256 w shapeCasts_S1x16x256_S16x256) (broadcastInDim S16x256 ![] bcast_S_S16x256 (id (constant (F := Ideal) S_ .f32 0x00000000#32)))
      (addf r (broadcastInDim S16x256 ![] bcast_S_S16x256 (constant (F := Ideal) S_ .f32 0x3F800000#32))) (ix2 t i)
      = Scalar.select (w (ix3 0 t i)) 0 (r (ix2 t i) + 1) := by
  pointwise []
  have e : (id (constant (F := Ideal) S_ .f32 0#32) ix0 : EReal) = 0 := c_zero
  rw [e]

/-- A step's row: zero where the column is set, else one more. -/
theorem step_row (f : IVec S256x16x256 1) (n : ℕ) (hn : n < 256) (s : FVec Ideal S16x256 .f32 × FVec Ideal S256x16x256 .f32) (t : Fin 16) (i : Fin 256) :
    (scanStep (F := Ideal) f n s).1 (ix2 t i) = if bits f t i n then 0 else s.1 (ix2 t i) + 1 := by
  have hr := read_col f _ n hn (starts n hn) t i
  refine (row_of _ s.1 t i).trans ?_
  rw [hr]
  unfold bits Scalar.select
  rw [dif_pos hn]
  simp only [decide_eq_true_eq]
  exact if_congr Iff.rfl rfl rfl

/-- A row as a column of the stack. -/
theorem col_of (d : FVec Ideal S16x256 .f32) (t : Fin 16) (i : Fin 256) :
    broadcastInDim S1x16x256 ![1, 2] bcast_S16x256_S1x16x256_1_2 d (ix3 0 t i) = d (ix2 t i) := by
  pointwise []

/-- A step's stack is the stack before with the new row written. -/
theorem step_snd (f : IVec S256x16x256 1) (n : ℕ) (s : FVec Ideal S16x256 .f32 × FVec Ideal S256x16x256 .f32) :
    (scanStep (F := Ideal) f n s).2 = Host.dynamicUpdateSlice s.2 (broadcastInDim S1x16x256 ![1, 2] bcast_S16x256_S1x16x256_1_2 (scanStep (F := Ideal) f n s).1)
      (fun k => (((![fun _ => Scf.iv 0#32 1#32 n, constantI S_ 32 0#32, constantI S_ 32 0#32] : Fin 3 → IVec S_ 32)) k (Shape.Idx.first h_S_)).toInt) updateFits_S256x16x256_S1x16x256 := by
  unfold scanStep
  dsimp only

/-- A step's stack: the step's column is the new row. -/
theorem step_stack (f : IVec S256x16x256 1) (n : ℕ) (hn : n < 256) (s : FVec Ideal S16x256 .f32 × FVec Ideal S256x16x256 .f32) (k : Fin 256) (t : Fin 16) (i : Fin 256) :
    (scanStep (F := Ideal) f n s).2 (ix3 k t i) = if k.val = n then (scanStep (F := Ideal) f n s).1 (ix2 t i) else s.2 (ix3 k t i) := by
  rw [step_snd]
  generalize (scanStep (F := Ideal) f n s).1 = d
  rw [← col_of d]
  exact write_col s.2 _ _ n hn (starts n hn) k t i

/-- The scan's row after `n` steps. -/
theorem scan_row (f : IVec S256x16x256 1) (s : FVec Ideal S16x256 .f32 × FVec Ideal S256x16x256 .f32) (hs : ∀ t i, s.1 (ix2 t i) = ((1000000 : ℝ) : EReal)) (t : Fin 16) (i : Fin 256) (n : ℕ) (hn : n ≤ 256) :
    (scanV (F := Ideal) f s n).1 (ix2 t i) = (((Hd.scan (bits f t i) n : ℕ) : ℝ) : EReal) := by
  induction n with
  | zero => rw [show (scanV (F := Ideal) f s 0).1 = s.1 from rfl, hs, Hd.scan]; norm_num
  | succ n ih =>
    rw [show scanV (F := Ideal) f s (n + 1) = scanStep (F := Ideal) f n (scanV f s n) from rfl, step_row f n (by omega), ih (by omega), Hd.scan]
    split_ifs
    · simp
    · rw [← EReal.coe_one, ← EReal.coe_add]; norm_num

/-- The scan's stack after `n` steps. -/
theorem scan_stack (f : IVec S256x16x256 1) (s : FVec Ideal S16x256 .f32 × FVec Ideal S256x16x256 .f32) (hs : ∀ t i, s.1 (ix2 t i) = ((1000000 : ℝ) : EReal)) (k : Fin 256) (t : Fin 16) (i : Fin 256) (n : ℕ) (hn : n ≤ 256) (hk : k.val < n) :
    (scanV (F := Ideal) f s n).2 (ix3 k t i) = (((Hd.scan (bits f t i) (k.val + 1) : ℕ) : ℝ) : EReal) := by
  induction n with
  | zero => omega
  | succ n ih =>
    have hr := scan_row f s hs t i (n + 1) hn
    rw [show scanV (F := Ideal) f s (n + 1) = scanStep (F := Ideal) f n (scanV f s n) from rfl] at hr ⊢
    rw [step_stack f n (by omega)]
    split_ifs with c
    · rw [hr, c]
    · exact ih (by omega) (by omega)

/-! ## The distances -/

/-- A minimum over the third of four axes. -/
theorem min_axis {n0 n1 n2 n3 : ℕ} (x : FVec Ideal ⟨4, ![n0, n1, n2, n3]⟩ .f32) (init : FVec Ideal S_ .f32) (h : (⟨4, ![n0, n1, n2, n3]⟩ : Shape).ReducesTo [2] ⟨3, ![n0, n1, n3]⟩) (hu : 0 < S_.numel)
    (t : Fin n0) (i : Fin n1) (j : Fin n3) :
    Host.reduce FloatOps.minimumf x init h hu (ix3 t i j) = Finset.fold min (init (Shape.Idx.first hu)) (fun k : Fin n2 => x (ix4 t i k j)) Finset.univ := by
  pointwise []

/-- The sums of squared row offset and squared distance within the row. -/
def terms (q : FVec Ideal S8x256x256 .f32) : FVec Ideal S8x256x256x256 .f32 :=
  addf (broadcastInDim S8x256x256x256 ![0, 1, 2, 3] bcast_S8x1x256x256_S8x256x256x256_0_1_2_3
      (broadcastInDim S8x1x256x256 ![0, 2, 3] bcast_S8x256x256_S8x1x256x256_0_2_3 q))
    (broadcastInDim S8x256x256x256 ![0, 1, 2, 3] bcast_S1x256x256x1_S8x256x256x256_0_1_2_3
      (broadcastInDim S1x256x256x1 ![1, 2] bcast_S256x256_S1x256x256x1_1_2 (offV (F := Ideal))))

/-- The squared offset of two rows. -/
theorem offV_eq (i k : Fin 256) : offV (F := Ideal) (ix2 i k) = (((dsq i k : ℕ) : ℝ) : EReal) := by
  pointwise [offV]
  rw [sitofp_nat _ (by omega), sitofp_nat _ (by omega), ← EReal.coe_sub, ← EReal.coe_mul, dsq_cast, sq]

/-- One sum. -/
theorem terms_apply (q : FVec Ideal S8x256x256 .f32) (t : Fin 8) (i k j : Fin 256) :
    terms q (ix4 t i k j) = q (ix3 t k j) + (((dsq i k : ℕ) : ℝ) : EReal) := by
  rw [← offV_eq]
  pointwise [terms]

/-- A root at an index. -/
theorem sqrt_at {s : Shape} (x : FVec Ideal s .f32) (j : s.Idx) : Host.sqrt x j = Ideal.sqrt (x j) := rfl

/-- The distances are roots of the least sums. -/
theorem distV_eq (q : FVec Ideal S8x256x256 .f32) :
    distV (F := Ideal) q = Host.sqrt (Host.reduce FloatOps.minimumf (terms q) (constant S_ .f32 0x7F800000#32) reducesTo_S8x256x256x256_S8x256x256_d2 h_S_) := rfl

/-- The least sums are the squared distances to the masks. -/
theorem least_eq (q : FVec Ideal S8x256x256 .f32) (X : Fin 8 → Mask) (hq : ∀ t i j, q (ix3 t i j) = (((N1 (X t) i j : ℕ) : ℝ) : EReal)) (t : Fin 8) (i j : Fin 256) :
    Finset.fold min (⊤ : EReal) (fun k : Fin 256 => terms q (ix4 t i k j)) Finset.univ = (((N2 (X t) i j : ℕ) : ℝ) : EReal) := by
  have hf : (fun k : Fin 256 => terms q (ix4 t i k j)) = fun k => (((N1 (X t) k j + dsq i k : ℕ) : ℝ) : EReal) := by
    funext k
    rw [terms_apply, hq, ← EReal.coe_add, Nat.cast_add]
  rw [hf]
  exact fold_min_nat _

/-- The distances to the masks are the roots of the squared distances. -/
theorem distV_apply (q : FVec Ideal S8x256x256 .f32) (X : Fin 8 → Mask) (hq : ∀ t i j, q (ix3 t i j) = (((N1 (X t) i j : ℕ) : ℝ) : EReal)) (t : Fin 8) (i j : Fin 256) :
    distV (F := Ideal) q (ix3 t i j) = ((Real.sqrt (N2 (X t) i j : ℕ) : ℝ) : EReal) := by
  have h1 := (min_axis (terms q) (constant (F := Ideal) S_ .f32 0x7F800000#32) reducesTo_S8x256x256x256_S8x256x256_d2 h_S_ t i j)
  have h2 : constant (F := Ideal) S_ .f32 0x7F800000#32 (Shape.Idx.first h_S_) = ⊤ := c_top
  rw [h2, least_eq q X hq] at h1
  exact (sqrt_at _ (ix3 t i j)).trans ((congrArg Ideal.sqrt h1).trans (by rw [Ideal.sqrt_coe, if_neg (not_lt.mpr (Nat.cast_nonneg _))]))

/-- The squared distances within the rows. -/
theorem rowSqV_apply (d : FVec Ideal S256x16x256 .f32) (X : Fin 8 → Mask) (F B : Fin 8 → Fin 256 → ℕ → Bool)
    (hF : ∀ t i (k : Fin 256), F t i k.val = X t i k) (hB : ∀ t i (k : Fin 256), B t i k.val = X t i k.rev)
    (hf : ∀ (t : Fin 8) (i k : Fin 256), d (ix3 k ⟨t.val, by omega⟩ i) = (((scan (F t i) (k.val + 1) : ℕ) : ℝ) : EReal))
    (hb : ∀ (t : Fin 8) (i k : Fin 256), d (ix3 k ⟨8 + t.val, by omega⟩ i) = (((scan (B t i) (k.val + 1) : ℕ) : ℝ) : EReal))
    (t : Fin 8) (i j : Fin 256) : rowSqV (F := Ideal) d (ix3 t i j) = (((N1 (X t) i j : ℕ) : ℝ) : EReal) := by
  have e : min (min (d (ix3 j ⟨t.val, by omega⟩ i)) (d (ix3 j.rev ⟨8 + t.val, by omega⟩ i))) (Ideal.ofBits .f32 1232348160#32)
      = (((min (min (Hd.scan (F t i) (j.val + 1)) (Hd.scan (B t i) (256 - j.val))) 1000000 : ℕ) : ℝ) : EReal) := by
    rw [hf, hb, c_million, show j.rev.val + 1 = 256 - j.val from by simp only [Fin.val_rev]; omega, Nat.cast_min, Nat.cast_min,
      EReal.coe_strictMono.monotone.map_min, EReal.coe_strictMono.monotone.map_min]
    norm_num
  pointwise [rowSqV]
  change min (min (d (ix3 j ⟨t.val, by omega⟩ i)) (d (ix3 j.rev ⟨8 + t.val, by omega⟩ i))) (Ideal.ofBits .f32 1232348160#32)
    * min (min (d (ix3 j ⟨t.val, by omega⟩ i)) (d (ix3 j.rev ⟨8 + t.val, by omega⟩ i))) (Ideal.ofBits .f32 1232348160#32) = _
  rw [e, ← EReal.coe_mul, ← Nat.cast_mul, ← sq, scan_sq (X t) i j (F t i) (B t i) (hF t i) (fun k => (hB t i k).trans (by congr 1; apply Fin.ext; simp only [Fin.val_rev]; omega))]

/-- The reference's distances: to the targets' masks in the first four images, to the predictions' in the last four. -/
theorem dist_of_scan (eg ep : IVec S4x256x256 1) (G P : Fin 4 → Mask) (hg : IsB eg G) (hp : IsB ep P)
    (s : FVec Ideal S16x256 .f32 × FVec Ideal S256x16x256 .f32) (hs : ∀ t i, s.1 (ix2 t i) = ((1000000 : ℝ) : EReal)) (t : Fin 8) (i j : Fin 256) :
    distV (F := Ideal) (rowSqV (F := Ideal) (scanV (F := Ideal) (scanInV (F := Ideal) eg ep) s 256).2) (ix3 t i j) = ((Real.sqrt (N2 (X8 G P t) i j : ℕ) : ℝ) : EReal) := by
  refine distV_apply _ (X8 G P) (fun t i j => ?_) t i j
  refine rowSqV_apply _ (X8 G P) (fun t i => bits (scanInV (F := Ideal) eg ep) ⟨t.val, by omega⟩ i) (fun t i => bits (scanInV (F := Ideal) eg ep) ⟨8 + t.val, by omega⟩ i) ?_ ?_ ?_ ?_ t i j
  · intro t i k
    unfold bits
    rw [dif_pos k.isLt, scanIn_fwd eg ep G P hg hp]
    cases X8 G P t i k <;> rfl
  · intro t i k
    unfold bits
    rw [dif_pos k.isLt, scanIn_bwd eg ep G P hg hp]
    cases X8 G P t i k.rev <;> rfl
  · exact fun t i k => scan_stack _ s hs k _ i 256 le_rfl k.isLt
  · exact fun t i k => scan_stack _ s hs k _ i 256 le_rfl k.isLt

end Cert.ReferenceIdeal.Val

end
-- ==== Proof.RefOut.lean ====
/-
  The reference's result at the extended reals: the mean of the images' losses.
-/
module

public import proofs.«01_k».proof.Proof.RefVal
public import Idealize.ShloMosaic.Lib.SortFacts
public import Idealize.ShloMosaic.Lib.IndicatorCount

@[expose] public section

set_option maxRecDepth 16384

noncomputable section

namespace Cert.ReferenceIdeal.Val

open Cert.ReferenceIdeal Cert.ReferenceIdeal.Gen Cert.ReferenceIdeal.Read
open Idealize.ShloMosaic
open Hd

/-! ## Flat pixels -/

/-- The pixel at a flat index. -/
def px (p : Fin 65536) : Px := (⟨p.val / 256, by omega⟩, ⟨p.val % 256, by omega⟩)

/-- Flat indices and pixels correspond. -/
theorem px_bij : Function.Bijective px := by
  constructor
  · intro a b h
    have h1 := congrArg (fun q : Px => q.1.val) h
    have h2 := congrArg (fun q : Px => q.2.val) h
    simp only [px] at h1 h2
    apply Fin.ext
    omega
  · rintro ⟨i, j⟩
    refine ⟨⟨256 * i.val + j.val, by omega⟩, ?_⟩
    unfold px
    apply Prod.ext <;> apply Fin.ext <;> simp only <;> omega

/-! ## The sort -/

/-- A select on a test of reals. -/
theorem select_decide {α : Type} (p : Prop) [Decidable p] (a b : α) : Scalar.select (BitVec.ofBool (decide p)) a b = if p then a else b := by
  unfold Scalar.select
  by_cases h : p
  · simp [h]
  · simp [h]

/-- The order of the sort. -/
theorem before_eq (l r : EReal) : comparator_f32_d1 (F := Ideal) l r = BitVec.ofBool (decide (l < r)) := by
  have key : ∀ x : EReal, Scalar.select (FloatOps.cmpf (F := Ideal) (φ := .f32) .une x x) (Ideal.ofBits .f32 0x7FC00000#32)
      (Scalar.select (FloatOps.cmpf (F := Ideal) (φ := .f32) .oeq x (Ideal.ofBits .f32 0x00000000#32)) (Ideal.ofBits .f32 0x00000000#32) x) = x := by
    intro x
    have e1 : FloatOps.cmpf (F := Ideal) (φ := .f32) .une x x = BitVec.ofBool (decide (x ≠ x)) := rfl
    have e2 : FloatOps.cmpf (F := Ideal) (φ := .f32) .oeq x (Ideal.ofBits .f32 0x00000000#32) = BitVec.ofBool (decide (x = Ideal.ofBits .f32 0x00000000#32)) := rfl
    rw [e1, e2, select_decide, select_decide, if_neg (fun h => h rfl)]
    split_ifs with h
    · exact h.symm
    · rfl
  have e : comparator_f32_d1 (F := Ideal) l r = BitVec.ofBool (decide
      (Scalar.select (FloatOps.cmpf (F := Ideal) (φ := .f32) .une l l) (Ideal.ofBits .f32 0x7FC00000#32)
        (Scalar.select (FloatOps.cmpf (F := Ideal) (φ := .f32) .oeq l (Ideal.ofBits .f32 0x00000000#32)) (Ideal.ofBits .f32 0x00000000#32) l)
      < Scalar.select (FloatOps.cmpf (F := Ideal) (φ := .f32) .une r r) (Ideal.ofBits .f32 0x7FC00000#32)
        (Scalar.select (FloatOps.cmpf (F := Ideal) (φ := .f32) .oeq r (Ideal.ofBits .f32 0x00000000#32)) (Ideal.ofBits .f32 0x00000000#32) r))) := rfl
  rw [e]
  simp only [key]

/-- A row of the sorted array is a rearrangement of the row, with no later entry below an earlier one. -/
theorem sort_row (x : FVec Ideal S4x65536 .f32) (t : Fin 4) : ∃ σ : Fin 65536 → Fin 65536, Function.Bijective σ
    ∧ (∀ p, Host.sort S4x65536 1 (comparator_f32_d1 (F := Ideal)) x (ix2 t p) = x (ix2 t (σ p)))
    ∧ ∀ i j, i < j → x (ix2 t (σ i)) ≤ x (ix2 t (σ j)) := by
  have hal : ∀ p k : Fin 65536, Shape.Idx.along (s := S4x65536) (ix2 t p) 1 k = ix2 t k := fun p k => by
    funext a
    match a with
    | 0 => rfl
    | 1 => rfl
  let R : Fin 65536 → Fin 65536 → Bool := fun k k' => comparator_f32_d1 (F := Ideal) (x (ix2 t k)) (x (ix2 t k')) == 1#1
  have hR : ∀ k k', R k k' = decide (x (ix2 t k) < x (ix2 t k')) := fun k k' => by
    show (comparator_f32_d1 (F := Ideal) (x (ix2 t k)) (x (ix2 t k')) == 1#1) = _
    rw [before_eq]
    by_cases h : x (ix2 t k) < x (ix2 t k') <;> simp [h]
  refine ⟨sortedFrom R, ⟨sortedFrom_injective R, sortedFrom_surjective R⟩, fun p => ?_, fun i j hij => ?_⟩
  · have h1 : Host.sort S4x65536 1 (comparator_f32_d1 (F := Ideal)) x (ix2 t p)
        = x (Shape.Idx.along (s := S4x65536) (ix2 t p) 1 (sortedFrom (fun k k' : Fin 65536 => comparator_f32_d1 (F := Ideal) (x (Shape.Idx.along (s := S4x65536) (ix2 t p) 1 k)) (x (Shape.Idx.along (s := S4x65536) (ix2 t p) 1 k')) == 1#1) p)) := rfl
    have h2 : (fun k k' : Fin 65536 => comparator_f32_d1 (F := Ideal) (x (Shape.Idx.along (s := S4x65536) (ix2 t p) 1 k)) (x (Shape.Idx.along (s := S4x65536) (ix2 t p) 1 k')) == 1#1) = R := by
      funext k k'
      rw [hal, hal]
    rw [h1, h2]
    exact congrArg x (hal p (sortedFrom R p))
  · have h := sortedFrom_noInversion R R
      (fun a b h => by rw [hR] at h ⊢; simp only [decide_eq_true_eq, decide_eq_false_iff_not, not_lt] at h ⊢; exact h.le) (fun a b h => h)
      (fun a b c h1 h2 => by rw [hR] at h1 h2 ⊢; simp only [decide_eq_false_iff_not, not_lt] at h1 h2 ⊢; exact h2.trans h1) i j hij
    rw [hR] at h
    simpa only [decide_eq_false_iff_not, not_lt] using h

/-- The distances on the mask, and ten to the twelfth off it, flat. -/
theorem masked_apply (d : FVec Ideal S4x65536 .f32) (k : IVec S4x65536 1) (t : Fin 4) (E : Mask) (D : Fin 256 → Fin 256 → ℕ) (hD : ∀ i j, D i j < fillN)
    (hk : ∀ p, k (ix2 t p) = BitVec.ofBool (E (px p).1 (px p).2)) (hd : ∀ p, d (ix2 t p) = ((Real.sqrt (D (px p).1 (px p).2 : ℕ) : ℝ) : EReal)) (p : Fin 65536) :
    select k d (broadcastInDim S4x65536 ![] bcast_S_S4x65536 (bigV (F := Ideal))) (ix2 t p) = ((φ (U E D (px p)) : ℝ) : EReal) := by
  pointwise [bigV]
  rw [hk, hd, c_million, ← EReal.coe_mul]
  unfold φ U
  cases h : E (px p).1 (px p).2
  · refine (if_neg (by decide)).trans ?_
    simp only [Bool.false_eq_true, if_false, le_refl, if_true]
    norm_num
  · rw [if_pos rfl, if_neg (not_le.mpr (hD _ _))]
    exact if_pos rfl

/-- The sorted list's entries are the distances at their places. -/
theorem sortedV_apply (d : FVec Ideal S4x65536 .f32) (k : IVec S4x65536 1) (t : Fin 4) (E : Mask) (D : Fin 256 → Fin 256 → ℕ) (hD : ∀ i j, D i j < fillN)
    (hk : ∀ p, k (ix2 t p) = BitVec.ofBool (E (px p).1 (px p).2)) (hd : ∀ p, d (ix2 t p) = ((Real.sqrt (D (px p).1 (px p).2 : ℕ) : ℝ) : EReal)) (q : Fin 65536) :
    sortedV (F := Ideal) d k (ix2 t q) = ((φ (rk (U E D) q.val) : ℝ) : EReal) := by
  have hv := masked_apply d k t E D hD hk hd
  unfold sortedV
  generalize select k d (broadcastInDim S4x65536 ![] bcast_S_S4x65536 (bigV (F := Ideal))) = x at *
  obtain ⟨σ, hσ, hs, hm⟩ := sort_row x t
  rw [hs, hv]
  refine congrArg _ (sorted_at φ_mono (U E D) (fun i => φ (U E D (px (σ i)))) (fun i j hij => ?_) (fun i => px (σ i)) (px_bij.comp hσ) (fun i => rfl) q (isRank_rk _ q.isLt))
  have h := hm i j hij
  rw [hv, hv] at h
  exact EReal.coe_le_coe_iff.mp h

/-! ## The position -/

/-- One less, but not below zero. -/
theorem less_one (n : ℕ) (hn : n ≤ 65536) : IntOp.maxsi (IntOp.subi (BitVec.ofNat 32 n) 1#32) 0#32 = BitVec.ofNat 32 (n - 1) := by
  cases n with
  | zero => rfl
  | succ m =>
    have e : IntOp.subi (BitVec.ofNat 32 (m + 1)) 1#32 = BitVec.ofNat 32 m := by
      show BitVec.ofNat 32 (m + 1) - 1#32 = _
      rw [BitVec.ofNat_add, BitVec.add_sub_cancel]
    rw [e, Nat.add_sub_cancel]
    unfold IntOp.maxsi
    split_ifs with h
    · rfl
    · rw [BitVec.slt, decide_eq_true_eq, toInt_nat m (by omega)] at h
      have h0 : m = 0 := by
        have h1 : ¬ ((0 : ℤ) < (m : ℤ)) := h
        omega
      rw [h0]

/-- An index within the list is not moved. -/
theorem clip_id (n : ℕ) (hn : n < 65536) : IntOp.minsi 65535#32 (IntOp.maxsi 0#32 (BitVec.ofNat 32 n)) = BitVec.ofNat 32 n := by
  have h1 : IntOp.maxsi 0#32 (BitVec.ofNat 32 n) = BitVec.ofNat 32 n := by
    unfold IntOp.maxsi
    refine if_neg fun h => ?_
    rw [BitVec.slt, decide_eq_true_eq, toInt_nat n (by omega)] at h
    have h2 : (n : ℤ) < 0 := h
    omega
  rw [h1]
  unfold IntOp.minsi
  split_ifs with h
  · rw [BitVec.slt, decide_eq_true_eq, toInt_nat n (by omega)] at h
    have h2 : (65535 : ℤ) < (n : ℤ) := h
    omega
  · rfl

/-- A natural converted to an integer. -/
theorem fptosi_nat (n : ℕ) (hn : n < 65536) : FloatOps.fptosi (F := Ideal) (φ := .f32) 32 ((((n : ℤ) : ℝ) : EReal)) = BitVec.ofNat 32 n := by
  show Ideal.fptosi 32 _ = _
  unfold Ideal.fptosi
  rw [Ideal.toIntClamped_coe, if_pos (by positivity), Int.floor_intCast]
  have e : max (-((2 ^ (32 - 1) : ℕ) : ℤ)) (min (((2 ^ (32 - 1) : ℕ) : ℤ) - 1) (n : ℤ)) = (n : ℤ) := by
    norm_num
    omega
  rw [e, BitVec.ofInt_natCast]

/-- The position among the pixels of the mask. -/
theorem posV_apply (k : IVec S4x65536 1) (t : Fin 4) (E : Mask) (hk : ∀ p, k (ix2 t p) = BitVec.ofBool (E (px p).1 (px p).2)) :
    posV (F := Ideal) k (ix1 t) = ((posR (card E) : ℝ) : EReal) := by
  have hc : (Finset.univ.filter fun p : Fin 65536 => k (ix2 t p) = 1#1).card = card E := by
    unfold card
    refine Finset.card_bij (fun p _ => px p) ?_ (fun a _ b _ h => px_bij.1 h) ?_
    · intro p hp
      simp only [Finset.mem_filter, Finset.mem_univ, true_and, hk] at hp ⊢
      cases h : E (px p).1 (px p).2
      · rw [h] at hp; exact absurd hp (by decide)
      · rfl
    · intro q hq
      obtain ⟨p, rfl⟩ := px_bij.2 q
      simp only [Finset.mem_filter, Finset.mem_univ, true_and] at hq
      exact ⟨p, by simp only [Finset.mem_filter, Finset.mem_univ, true_and, hk, hq]; rfl, rfl⟩
  pointwise [posV]
  rw [IndicatorCount.fold_addi_setWidth_eq_card (fun p : Fin 65536 => k (ix2 t p)) Finset.univ, hc, less_one _ (card_le E), sitofp_nat _ (by have := card_le E; omega), c_w, ← EReal.coe_mul]
  rfl

/-- The lower index. -/
theorem loV_apply (k : IVec S4x65536 1) (t : Fin 4) (E : Mask) (hk : ∀ p, k (ix2 t p) = BitVec.ofBool (E (px p).1 (px p).2)) :
    loV (F := Ideal) k (ix1 t) = BitVec.ofNat 32 (place (card E)) := by
  have hp := posV_apply k t E hk
  have hl := place_lt (card_le E)
  have e : ∀ w : EReal, w = ((posR (card E) : ℝ) : EReal) → IntOp.minsi 65535#32 (IntOp.maxsi 0#32 (FloatOps.fptosi (F := Ideal) (φ := .f32) 32 (Ideal.liftRound Int.floor w))) = BitVec.ofNat 32 (place (card E)) := by
    rintro w rfl
    rw [Ideal.liftRound_coe, floor_posR, fptosi_nat _ (by omega), clip_id _ (by omega)]
  pointwise [loV, clipV]
  exact e _ hp

/-- The higher index. -/
theorem hiV_apply (k : IVec S4x65536 1) (t : Fin 4) (E : Mask) (hk : ∀ p, k (ix2 t p) = BitVec.ofBool (E (px p).1 (px p).2)) :
    clipV (F := Ideal) (addi (loV (F := Ideal) k) (broadcastInDim S4 ![] bcast_S_S4 (constantI S_ 32 1#32))) (ix1 t) = BitVec.ofNat 32 (place (card E) + 1) := by
  have hp := loV_apply k t E hk
  have hl := place_lt (card_le E)
  generalize loV (F := Ideal) k = w at *
  have e : ∀ b : BitVec 32, b = BitVec.ofNat 32 (place (card E)) → IntOp.minsi 65535#32 (IntOp.maxsi 0#32 (IntOp.addi b 1#32)) = BitVec.ofNat 32 (place (card E) + 1) := by
    rintro b rfl
    have h1 : IntOp.addi (BitVec.ofNat 32 (place (card E))) 1#32 = BitVec.ofNat 32 (place (card E) + 1) := by
      show BitVec.ofNat 32 _ + 1#32 = _
      rw [BitVec.ofNat_add]
    rw [h1, clip_id _ hl]
  pointwise [clipV]
  exact e _ hp

/-! ## The entry taken -/

/-- The entry at an index, read signed and kept inside the row. -/
theorem gather_entry {α : Type} (x : S4x65536.Idx → α) (idx : IVec S4x1x1 32) (t : Fin 4) (n : ℕ) (hn : n < 65536) (hi : (idx (ix3 t 0 0)).toInt = (n : ℤ)) :
    Host.gather gather_S4x65536_S4x1x1_S4x1_n_1_0_0_1_2_11 x idx (ix2 t 0) = x (ix2 t ⟨n, hn⟩) := by
  refine congrArg x (funext fun a => Fin.ext ?_)
  show GatherDims.start _ _ _ a + GatherDims.batchCoord _ _ a + GatherDims.offCoord _ _ a = _
  have hoff : GatherDims.offCoord gather_S4x65536_S4x1x1_S4x1_n_1_0_0_1_2_11 (ix2 t 0) a = 0 :=
    GatherDims.offCoord_eq_zero _ _ _ fun h => by
      have h' := (GatherDims.mem_sKept _ _).mp h
      match a with
      | 0 => exact h'.2 (List.mem_singleton.mpr rfl)
      | 1 => exact h'.1 (List.mem_singleton.mpr rfl)
  rw [hoff, Nat.add_zero]
  match a with
  | 0 =>
    rw [GatherDims.start_batching _ _ _ _ (List.mem_singleton.mpr rfl), Nat.zero_add]
    exact dif_pos (List.mem_singleton.mpr rfl)
  | 1 =>
    have hb : (1 : Fin S4x65536.rank) ∉ gather_S4x65536_S4x1x1_S4x1_n_1_0_0_1_2_11.operandBatchingDims := fun h => absurd (List.mem_singleton.mp h) (by decide)
    rw [GatherDims.batchCoord_eq_zero _ _ _ hb, Nat.add_zero]
    refine (dif_pos (List.mem_singleton.mpr rfl)).trans ?_
    have hs : ∀ c, GatherDims.siIdx gather_S4x65536_S4x1x1_S4x1_n_1_0_0_1_2_11 (ix2 t 0) c = ix3 t 0 0 := fun c => by
      funext b
      apply Fin.ext
      match b with
      | 0 => rfl
      | 1 => rfl
      | 2 => have := c.isLt; exact Nat.lt_one_iff.mp this
    rw [hs, hi]
    show min ((n : ℤ).toNat) (65536 - 1) = n
    omega

/-- The entry of the list at a small index. -/
theorem takeV_apply (s : FVec Ideal S4x65536 .f32) (i : IVec S4 32) (t : Fin 4) (n : ℕ) (hn : n < 65536) (hi : i (ix1 t) = BitVec.ofNat 32 n) :
    takeV (F := Ideal) s i (ix1 t) = s (ix2 t ⟨n, hn⟩) := by
  pointwise [takeV, takeAtV]
  refine gather_entry s _ t n hn ?_
  pointwise []
  rw [hi]
  have h : IntOp.cmpi .slt (BitVec.ofNat 32 n) 0#32 = BitVec.ofBool (decide ((n : ℤ) < 0)) := by
    show BitVec.ofBool (BitVec.slt _ _) = _
    rw [BitVec.slt, toInt_nat n (by omega)]
    rfl
  rw [h, select_decide, if_neg (by omega), toInt_nat n (by omega)]

/-! ## The percentile and the mean -/

/-- The percentile of one image. -/
theorem pctV_apply (d : FVec Ideal S4x65536 .f32) (k : IVec S4x65536 1) (t : Fin 4) (E : Mask) (D : Fin 256 → Fin 256 → ℕ) (hD : ∀ i j, D i j < fillN)
    (hk : ∀ p, k (ix2 t p) = BitVec.ofBool (E (px p).1 (px p).2)) (hd : ∀ p, d (ix2 t p) = ((Real.sqrt (D (px p).1 (px p).2 : ℕ) : ℝ) : EReal)) :
    pctV (F := Ideal) d k (ix1 t) = ((pct E D : ℝ) : EReal) := by
  have hl := place_lt (card_le E)
  have hp := posV_apply k t E hk
  have h1 := (takeV_apply (sortedV (F := Ideal) d k) _ t _ (by omega) (loV_apply k t E hk)).trans (sortedV_apply d k t E D hD hk hd _)
  have h2 := (takeV_apply (sortedV (F := Ideal) d k) _ t _ hl (hiV_apply k t E hk)).trans (sortedV_apply d k t E D hD hk hd _)
  unfold pctV
  generalize takeV (F := Ideal) (sortedV (F := Ideal) d k) (loV (F := Ideal) k) = a at *
  generalize takeV (F := Ideal) (sortedV (F := Ideal) d k) (clipV (F := Ideal) (addi (loV (F := Ideal) k) (broadcastInDim S4 ![] bcast_S_S4 (constantI S_ 32 1#32)))) = b at *
  generalize posV (F := Ideal) k = p at *
  pointwise []
  rw [h1, h2, hp, Ideal.liftRound_coe, floor_posR, Int.cast_natCast, ← EReal.coe_one, ← EReal.coe_sub, ← EReal.coe_sub, ← EReal.coe_mul, ← EReal.coe_mul, ← EReal.coe_add]
  rfl

/-- The mean of the larger percentiles. -/
theorem meanV_apply (a b : FVec Ideal S4 .f32) (y : S_.Idx) :
    meanV (F := Ideal) a b y = Ideal.div (∑ x : Fin 4, max (a (ix1 x)) (b (ix1 x))) (Ideal.ofBits .f32 1082130432#32) := by
  pointwise [meanV]

/-- The first four images' distances, flat. -/
theorem toGV_apply (q : FVec Ideal S8x256x256 .f32) (t : Fin 4) (p : Fin 65536) : toGV (F := Ideal) q (ix2 t p) = distV (F := Ideal) q (ix3 ⟨t.val, by omega⟩ (px p).1 (px p).2) := by
  unfold toGV
  generalize distV (F := Ideal) q = d
  pointwise []
  rfl
/-- The last four images' distances, flat. -/
theorem toPV_apply (q : FVec Ideal S8x256x256 .f32) (t : Fin 4) (p : Fin 65536) : toPV (F := Ideal) q (ix2 t p) = distV (F := Ideal) q (ix3 ⟨4 + t.val, by omega⟩ (px p).1 (px p).2) := by
  unfold toPV
  generalize distV (F := Ideal) q = d
  pointwise []
  rfl
/-- A mask, flat. -/
theorem flatV_apply (k : IVec S4x256x256 1) (t : Fin 4) (p : Fin 65536) : flatV (F := Ideal) k (ix2 t p) = k (ix3 t (px p).1 (px p).2) := by
  pointwise [flatV]
  rfl

/-- The squared distances to a mask are below the fill. -/
theorem N2_lt (X : Mask) (i j : Fin 256) : N2 X i j < fillN := by
  rcases N2_cases X with h | h
  · have h1 := h i j
    show N2 X i j < 1999999991808
    omega
  · rw [h i j]; decide

/-- The reference's result is the mean of the images' losses. -/
theorem refV_eq (a0 : FVec Ideal S4x1x256x256 .f32) (a1 : IVec S4x1x256x256 32) (j : FVec Ideal S256x16x256 .f32) (y : S_.Idx) :
    refV (F := Ideal) a0 a1 j y = Ideal.div (∑ t : Fin 4, ((img (pmR a0 t) (gmR a1 t) : ℝ) : EReal)) (Ideal.ofBits .f32 1082130432#32) := by
  have hg := bdV_bits _ _ (gmV_bits a1)
  have hp := bdV_bits _ _ (pmV_bits a0)
  have hg' : ∀ t i j, bdV (F := Ideal) (gmV (F := Ideal) a1) (ix3 t i j) = BitVec.ofBool (bd (gmR a1 t) i j) := hg
  have hp' : ∀ t i j, bdV (F := Ideal) (pmV (F := Ideal) a0) (ix3 t i j) = BitVec.ofBool (bd (pmR a0 t) i j) := hp
  have hs : ∀ (t : Fin 16) (i : Fin 256), (broadcastInDim S16x256 ![] bcast_S_S16x256 (constant (F := Ideal) S_ .f32 0x49742400#32) : FVec Ideal S16x256 .f32) (ix2 t i) = ((1000000 : ℝ) : EReal) := fun t i => by
    pointwise []
    exact c_million
  have hdist := dist_of_scan _ _ _ _ hg hp (broadcastInDim S16x256 ![] bcast_S_S16x256 (constant (F := Ideal) S_ .f32 0x49742400#32), j) hs
  unfold refV resultV
  rw [meanV_apply]
  generalize rowSqV (F := Ideal) _ = q at *
  have h1 : ∀ t : Fin 4, pctV (F := Ideal) (toGV (F := Ideal) q) (flatV (F := Ideal) (bdV (F := Ideal) (pmV (F := Ideal) a0))) (ix1 t) = ((pct (bd (pmR a0 t)) (N2 (bd (gmR a1 t))) : ℝ) : EReal) := fun t =>
    pctV_apply _ _ t _ _ (N2_lt _) (fun p => (flatV_apply _ t p).trans (hp' _ _ _)) fun p => by
      rw [toGV_apply, hdist]
      unfold X8
      rw [dif_pos t.isLt]
  have h2 : ∀ t : Fin 4, pctV (F := Ideal) (toPV (F := Ideal) q) (flatV (F := Ideal) (bdV (F := Ideal) (gmV (F := Ideal) a1))) (ix1 t) = ((pct (bd (gmR a1 t)) (N2 (bd (pmR a0 t))) : ℝ) : EReal) := fun t =>
    pctV_apply _ _ t _ _ (N2_lt _) (fun p => (flatV_apply _ t p).trans (hg' _ _ _)) fun p => by
      rw [toPV_apply, hdist]
      unfold X8
      rw [dif_neg (by simp)]
      simp only [Nat.add_sub_cancel_left]
  congr 1
  refine Finset.sum_congr rfl fun t _ => ?_
  rw [h1, h2, ← EReal.coe_strictMono.monotone.map_max]
  rfl

end Cert.ReferenceIdeal.Val

end
-- ==== Proof.lean ====
/- The proof of the certificate's claim: the three frames, the named constant's `preserves`, the equality of the results. -/
module

public import proofs.«01_k».proof.Defs
public import proofs.«01_k».proof.Proof.PlainRun
public import proofs.«01_k».proof.Proof.KernelRun
public import proofs.«01_k».proof.Proof.KernelMean
public import proofs.«01_k».proof.Proof.RefRun
public import proofs.«01_k».proof.Proof.RefOut
public import Idealize.ShloMosaic.Adequacy
public import Idealize.ShloMosaic.Init

@[expose] public section

noncomputable section

namespace Cert.Proof

open Idealize.ShloMosaic Idealize.SL.Sem

/-- The kernel's frame: its arguments end unchanged, its counters at zero. -/
theorem frame_kernel : Cert.quiescent_Kernel := fun m ρ _ => Cert.Kernel.Run.frame m ρ
/-- The idealized kernel's frame. -/
theorem frame_kernelIdeal : Cert.quiescent_KernelIdeal := fun m ρ _ => Cert.KernelIdeal.Run.frame m ρ
/-- The idealized reference's frame. -/
theorem frame_referenceIdeal : Cert.quiescent_ReferenceIdeal := fun m ρ _ => Cert.ReferenceIdeal.Read.frame m ρ
/-- The literal of the kernel is the number it is named for, rounded. -/
theorem preserves : Cert.preserves_Kernel_KernelIdeal :=
  IdealRules.named_const.statement Cert.KernelIdeal.κ "tenToTwelve" .f32 0x5368D4A5#32 ((1000000000000 : ℝ) : EReal) rfl

/-- The idealized kernel and the idealized reference end at the same number: the mean of the images' losses. -/
theorem algebraic : Cert.algebraic_KernelIdeal_ReferenceIdeal := by
  intro m g m' g' _ hargs
  refine ⟨_, Cert.KernelIdeal.Mean.run m g, ?_⟩
  refine (θ_run Cert.ReferenceIdeal.defs _ _).mono (fun r h c => ?_) (Cert.ReferenceIdeal.Read.run (F := Ideal) m' g')
  obtain ⟨⟨j, hj⟩, h0, h1⟩ := h c
  refine ⟨hj.trans ?_, h0, h1⟩
  funext y
  refine (Cert.ReferenceIdeal.Val.refV_eq _ _ j y).trans ?_
  rw [(hargs c).1, (hargs c).2]
  rfl

/-- The certificate's claim. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
